-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x256 : Shape := ⟨2, ![2048, 256]⟩
abbrev S2048 : Shape := ⟨1, ![2048]⟩
abbrev S1024x256 : Shape := ⟨2, ![1024, 256]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  slices_S3072_S2048_0 : S3072.Slices ![0] S2048
  bcast_S_S2048 : S_.BroadcastsInDim S2048 (![] : Fin 0 → Fin S2048.rank)
  reducesTo_S2048_S_d0 : S2048.ReducesTo [0] S_

variable [Facts]

def fn_part2 {F : FTy → Type} [FloatOps F] (main_v28 : IVec S_ 1) (main_v33 : IVec S_ 1) : IVec S_ 1 :=
  let main_v34 : IVec S_ 1 := andi main_v28 main_v33
  main_v34

def fn_part1 {F : FTy → Type} [FloatOps F] (main_arg5 : FVec F S1024 .f32) (main_arg6 : FVec F S3072x1024 .f32) (main_arg7 : FVec F S3072 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S3072x1024 .f32 := Host.absf main_arg6
  let main_cst_8 : FVec F S_ .f32 := constant S_ .f32 0x7F800000#32
  let main_v25 : FVec F S3072x1024 .f32 := broadcastInDim S3072x1024 ![] bcast_S_S3072x1024 main_cst_8
  let main_v26 : IVec S3072x1024 1 := cmpf .olt main_v24 main_v25
  let main_c_9 : IVec S_ 1 := constantI S_ 1 1#1
  let main_v27 : IVec S_ 1 := (fun x v => Host.reduce IntOp.andi x v reducesTo_S3072x1024_S_d0_1 h_S_) main_v26 main_c_9
  let main_v28 : IVec S_ 1 := andi main_v23 main_v27
  let main_v29 : FVec F S2048 .f32 := (extractStridedSlice S2048 ![0] · slices_S3072_S2048_0) main_arg7
  let main_v30 : FVec F S2048 .f32 := Host.absf main_v29
  let main_cst_10 : FVec F S_ .f32 := constant S_ .f32 0x7F800000#32
  let main_v31 : FVec F S2048 .f32 := broadcastInDim S2048 ![] bcast_S_S2048 main_cst_10
  let main_v32 : IVec S2048 1 := cmpf .olt main_v30 main_v31
  let main_c_11 : IVec S_ 1 := constantI S_ 1 1#1
  let main_v33 : IVec S_ 1 := (fun x v => Host.reduce IntOp.andi x v reducesTo_S2048_S_d0 h_S_) main_v32 main_c_11
  fn_part2 (F := F) main_v28 main_v33

def fn {F : FTy → Type} [FloatOps F] (main_arg0 : FVec F S2048x1024 .f32) (main_arg1 : FVec F S2048x256 .f32) (main_arg2 : FVec F S2048x256 .f32) (main_arg3 : IVec S2048 32) (main_arg4 : FVec F S1024x256 .f32) (main_arg5 : FVec F S1024 .f32) (main_arg6 : FVec F S3072x1024 .f32) (main_arg7 : FVec F S3072 .f32) (main_arg8 : FVec F S1024x1024 .f32) (main_arg9 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x256 .f32 := Host.absf main_arg2
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  let main_c_3 : IVec S_ 1 := constantI S_ 1 1#1
  let main_v12 : IVec S_ 1 := (fun x v => Host.reduce IntOp.andi x v reducesTo_S2048x256_S_d0_1 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg5 main_arg6 main_arg7 main_v13 main_v16
-- ==== Kernel.lean ====
abbrev S2048x1024 : Shape := ⟨2, ![2048, 1024]⟩
abbrev S2048x256 : Shape := ⟨2, ![2048, 256]⟩
abbrev S2048 : Shape := ⟨1, ![2048]⟩
abbrev S1024x256 : Shape := ⟨2, ![1024, 256]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S1x1024 : Shape := ⟨2, ![1, 1024]⟩
abbrev S256x256 : Shape := ⟨2, ![256, 256]⟩
abbrev S256x1024 : Shape := ⟨2, ![256, 1024]⟩
abbrev S2048x1 : Shape := ⟨2, ![2048, 1]⟩
abbrev S2048x128 : Shape := ⟨2, ![2048, 128]⟩
abbrev S1x2048 : Shape := ⟨2, ![1, 2048]⟩
abbrev S8x2048 : Shape := ⟨2, ![8, 2048]⟩
abbrev S256x128 : Shape := ⟨2, ![256, 128]⟩
abbrev S256x1 : Shape := ⟨2, ![256, 1]⟩
abbrev S256x2048 : Shape := ⟨2, ![256, 2048]⟩
abbrev S256 : Shape := ⟨1, ![256]⟩

abbrev nBuf : Space → Nat
  | .hbm => 32
  | .vmem => 35
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S2048, .i32⟩
  | .hbm, ⟨4, _⟩ => ⟨S1024x256, .f32⟩
  | .hbm, ⟨5, _⟩ => ⟨S1024, .f32⟩
  | .hbm, ⟨6, _⟩ => ⟨S3072x1024, .f32⟩
  | .hbm, ⟨7, _⟩ => ⟨S3072, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1024x256, .f32⟩
  | .hbm, ⟨22, _⟩ => ⟨S1024x256, .f32⟩
  | .hbm, ⟨23, _⟩ => ⟨S1x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1, .i32⟩
  | .hbm, ⟨28, _⟩ => ⟨S2048x128, .i32⟩
  | .hbm, ⟨29, _⟩ => ⟨S1x2048, .i32⟩
  | .hbm, ⟨30, _⟩ => ⟨S8x2048, .i32⟩
  | .hbm, ⟨31, _⟩ => ⟨S2048x1024, .f32⟩
  | .local _ .vmem, ⟨0, _⟩ => ⟨S1024x256, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1024x256, .f32⟩
  | .local _ .vmem, ⟨7, _⟩ => ⟨S1024x256, .f32⟩
  | .local _ .vmem, ⟨8, _⟩ => ⟨S1x1024, .f32⟩
  | .local _ .vmem, ⟨9, _⟩ => ⟨S1x1024, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S1024x256, .f32⟩
  | .local _ .vmem, ⟨15, _⟩ => ⟨S1x1024, .f32⟩
  | .local _ .vmem, ⟨16, _⟩ => ⟨S1024x256, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x128, .i32⟩
  | .local _ .vmem, ⟨23, _⟩ => ⟨S256x128, .i32⟩
  | .local _ .vmem, ⟨24, _⟩ => ⟨S8x2048, .i32⟩
  | .local _ .vmem, ⟨25, _⟩ => ⟨S256x1024, .f32⟩
  | .local _ .vmem, ⟨26, _⟩ => ⟨S256x1024, .f32⟩
  | .local _ .vmem, ⟨27, _⟩ => ⟨S1024x1024, .f32⟩
  | .local _ .vmem, ⟨28, _⟩ => ⟨S1x1024, .f32⟩
  | .local _ .vmem, ⟨29, _⟩ => ⟨S2048x1024, .f32⟩
  | .local _ .vmem, ⟨30, _⟩ => ⟨S2048x1024, .f32⟩
  | .local _ .vmem, ⟨31, _⟩ => ⟨S1024x1024, .f32⟩
  | .local _ .vmem, ⟨32, _⟩ => ⟨S1x1024, .f32⟩
  | .local _ .vmem, ⟨33, _⟩ => ⟨S256x1024, .f32⟩
  | .local _ .vmem, ⟨34, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v12_0 : Ref sig .tc := ⟨.hbm, 25, rfl⟩
abbrev main_v12_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg9_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem9_1 : DmaSem sig := 34

abbrev nD : Nat := 1
abbrev τ : Topo := Topo.v7x

variable {F : FTy → Type} [FloatOps F]

abbrev grid0 : Pipeline.Grid := .none

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x2048 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2048x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S2048x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1024x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S256x1024 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== ReferenceIdeal.lean ====
abbrev S2048x1024 : Shape := ⟨2, ![2048, 1024]⟩
abbrev S2048x256 : Shape := ⟨2, ![2048, 256]⟩
abbrev S2048 : Shape := ⟨1, ![2048]⟩
abbrev S1024x256 : Shape := ⟨2, ![1024, 256]⟩
abbrev S1024 : Shape := ⟨1, ![1024]⟩
abbrev S3072x1024 : Shape := ⟨2, ![3072, 1024]⟩
abbrev S3072 : Shape := ⟨1, ![3072]⟩
abbrev S1024x1024 : Shape := ⟨2, ![1024, 1024]⟩
abbrev S256x1024 : Shape := ⟨2, ![256, 1024]⟩
abbrev S1x1024 : Shape := ⟨2, ![1, 1024]⟩
abbrev S2048x1 : Shape := ⟨2, ![2048, 1]⟩
abbrev S1x2048 : Shape := ⟨2, ![1, 2048]⟩
abbrev S2048x2048 : Shape := ⟨2, ![2048, 2048]⟩
abbrev S2048x4x256 : Shape := ⟨3, ![2048, 4, 256]⟩
abbrev S4x2048x256 : Shape := ⟨3, ![4, 2048, 256]⟩
abbrev S4x2048x2048 : Shape := ⟨3, ![4, 2048, 2048]⟩
abbrev S_ : Shape := ⟨0, ![]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 84
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S2048, .i32⟩
  | .hbm, ⟨4, _⟩ => ⟨S1024x256, .f32⟩
  | .hbm, ⟨5, _⟩ => ⟨S1024, .f32⟩
  | .hbm, ⟨6, _⟩ => ⟨S3072x1024, .f32⟩
  | .hbm, ⟨7, _⟩ => ⟨S3072, .f32⟩
  | .hbm, ⟨8, _⟩ => ⟨S1024x1024, .f32⟩
  | .hbm, ⟨9, _⟩ => ⟨S1024, .f32⟩
  | .hbm, ⟨10, _⟩ => ⟨S256x1024, .f32⟩
  | .hbm, ⟨11, _⟩ => ⟨S2048x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S256x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1, .i32⟩
  | .hbm, ⟨21, _⟩ => ⟨S1x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024, .f32⟩
  | .hbm, ⟨29, _⟩ => ⟨S1024, .f32⟩
  | .hbm, ⟨30, _⟩ => ⟨S1024, .f32⟩
  | .hbm, ⟨31, _⟩ => ⟨S1024x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x4x256, .f32⟩
  | .hbm, ⟨37, _⟩ => ⟨S4x2048x256, .f32⟩
  | .hbm, ⟨38, _⟩ => ⟨S1024x1024, .f32⟩
  | .hbm, ⟨39, _⟩ => ⟨S2048x1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x4x256, .f32⟩
  | .hbm, ⟨44, _⟩ => ⟨S4x2048x256, .f32⟩
  | .hbm, ⟨45, _⟩ => ⟨S1024x1024, .f32⟩
  | .hbm, ⟨46, _⟩ => ⟨S2048x1024, .f32⟩
  | .hbm, ⟨47, _⟩ => ⟨S1x1024, .f32⟩
  | .hbm, ⟨48, _⟩ => ⟨S2048x1024, .f32⟩
  | .hbm, ⟨49, _⟩ => ⟨S2048x1024, .f32⟩
  | .hbm, ⟨50, _⟩ => ⟨S2048x4x256, .f32⟩
  | .hbm, ⟨51, _⟩ => ⟨S4x2048x256, .f32⟩
  | .hbm, ⟨52, _⟩ => ⟨S4x2048x2048, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S1x2048x2048, .i1⟩
  | .hbm, ⟨57, _⟩ => ⟨S_, .f32⟩
  | .hbm, ⟨58, _⟩ => ⟨S4x2048x2048, .i1⟩
  | .hbm, ⟨59, _⟩ => ⟨S4x2048x2048, .f32⟩
  | .hbm, ⟨60, _⟩ => ⟨S4x2048x2048, .f32⟩
  | .hbm, ⟨61, _⟩ => ⟨S_, .f32⟩
  | .hbm, ⟨62, _⟩ => ⟨S4x2048, .f32⟩
  | .hbm, ⟨63, _⟩ => ⟨S_, .f32⟩
  | .hbm, ⟨64, _⟩ => ⟨S4x2048, .f32⟩
  | .hbm, ⟨65, _⟩ => ⟨S4x2048, .f32⟩
  | .hbm, ⟨66, _⟩ => ⟨S4x2048x1, .f32⟩
  | .hbm, ⟨67, _⟩ => ⟨S4x2048x2048, .f32⟩
  | .hbm, ⟨68, _⟩ => ⟨S4x2048x2048, .f32⟩
  | .hbm, ⟨69, _⟩ => ⟨S4x2048x2048, .f32⟩
  | .hbm, ⟨70, _⟩ => ⟨S_, .f32⟩
  | .hbm, ⟨71, _⟩ => ⟨S4x2048, .f32⟩
  | .hbm, ⟨72, _⟩ => ⟨S4x2048x1, .f32⟩
  | .hbm, ⟨73, _⟩ => ⟨S4x2048x2048, .f32⟩
  | .hbm, ⟨74, _⟩ => ⟨S4x2048x2048, .f32⟩
  | .hbm, ⟨75, _⟩ => ⟨S4x2048x256, .f32⟩
  | .hbm, ⟨76, _⟩ => ⟨S2048x4x256, .f32⟩
  | .hbm, ⟨77, _⟩ => ⟨S2048x1024, .f32⟩
  | .hbm, ⟨78, _⟩ => ⟨S1024x1024, .f32⟩
  | .hbm, ⟨79, _⟩ => ⟨S2048x1024, .f32⟩
  | .hbm, ⟨80, _⟩ => ⟨S1x1024, .f32⟩
  | .hbm, ⟨81, _⟩ => ⟨S2048x1024, .f32⟩
  | .hbm, ⟨82, _⟩ => ⟨S2048x1024, .f32⟩
  | .hbm, ⟨83, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_0 : Ref sig .tc := ⟨.hbm, 57, rfl⟩
abbrev main_call0_v0 : Ref sig .tc := ⟨.hbm, 58, rfl⟩
abbrev main_call0_v1 : Ref sig .tc := ⟨.hbm, 59, rfl⟩
abbrev main_v46 : Ref sig .tc := ⟨.hbm, 60, rfl⟩
abbrev main_cst_1 : Ref sig .tc := ⟨.hbm, 61, rfl⟩
abbrev main_v47 : Ref sig .tc := ⟨.hbm, 62, rfl⟩
abbrev main_cst_2 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_3 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩

abbrev nD : Nat := 1
abbrev τ : Topo := Topo.v7x

variable {F : FTy → Type} [FloatOps F]
-- ==== Proof.KRun.lean ====
/- Hand-written, untrusted: THE KERNEL'S RUN, READ AT EVERY BUFFER. The generated frame says that the run ends and leaves the
   arguments as launched; here the same launch over the same segments is read at every buffer of @main, the result among
   them: each ends at what the fold through the segments gives it (`Gen.W5`). -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the kernel's run ends, nothing faulting, with every buffer of @main at the contents
    that the segments' fold gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- So the result array ends at what the last region's write-backs leave, and the arguments as launched. -/
theorem run : θ_run defs (onTc (τ := τ) (main (F := F))) ⟨m, fun _ => 0, ρ⟩ (fun r => ∀ c : Dev nD,
      r.2.mem ((c.tc : Thread nD τ).loc main_v17) = (dat2 (V4 m ρ) c).arrAt 9 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v17 (by decide))).trans (W5_arr m ρ c 9),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c)⟩) (run_all m ρ)

end Cert.KernelIdeal.Hand

end
-- ==== Proof.Math.lean ====
/- Hand-written, untrusted: THE EQUATION over the extended reals, free of any program. The kernel folds the edge projection into
   the key and value weights, scales the queries by 1/16 and divides each head's weighted sum of values by the sum of the
   weights; the reference projects twice, divides the scores by 16 and normalises the weights before it sums. Where the
   entries are real numbers the two are equal, by distributivity. -/
module

public import Idealize.ShloMosaic.PureOps.Ideal.Laws
public import Mathlib.Tactic.Ring
public import Mathlib.Tactic.FieldSimp

@[expose] public section

noncomputable section

namespace Cert.Proof.Math

open Idealize.ShloMosaic
open scoped BigOperators

/-- An extended real that is a real number. -/
def IsReal (x : EReal) : Prop := ∃ r : ℝ, x = (r : EReal)

/-- An extended real strictly between the infinities is a real number. -/
theorem isReal_of_ne {x : EReal} (ht : x ≠ ⊤) (hb : x ≠ ⊥) : IsReal x := ⟨x.toReal, (EReal.coe_toReal ht hb).symm⟩

/-- The sum of real numbers, taken in the extended reals, is their real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of two real numbers is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of real numbers is real. -/
theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-! ## A key or value entry -/

variable {E H M C : Type} [Fintype E] [Fintype H] [Fintype M] [Fintype C]

/-- The folded entry: the row `x` against the product of the two weights, plus the folded offset. -/
def foldedEntry (x : E → EReal) (we : H → E → EReal) (be w : H → EReal) (b : EReal) : EReal :=
  ∑ e, x e * (∑ h, w h * we h e) + (∑ h, be h * w h + b)

/-- The entry in two steps: the row projected by `we`, `be`, then by `w`, `b`. -/
def twoStepEntry (x : E → EReal) (we : H → E → EReal) (be w : H → EReal) (b : EReal) : EReal :=
  ∑ h, (∑ e, x e * we h e + be h) * w h + b

/-- At real entries folding the two projections changes nothing, whatever the last offset. -/
theorem folded_eq (x : E → EReal) (we : H → E → EReal) (be w : H → EReal) (b : EReal) (hx : ∀ e, IsReal (x e))
    (hwe : ∀ h e, IsReal (we h e)) (hbe : ∀ h, IsReal (be h)) (hw : ∀ h, IsReal (w h)) :
    foldedEntry x we be w b = twoStepEntry x we be w b := by
  choose x' hx using hx
  choose we' hwe using hwe
  choose be' hbe using hbe
  choose w' hw using hw
  unfold foldedEntry twoStepEntry
  rw [← add_assoc]
  congr 1
  simp only [hx, hwe, hbe, hw, ← EReal.coe_mul, coe_sum, ← EReal.coe_add]
  congr 1
  simp only [add_mul, Finset.sum_add_distrib, Finset.mul_sum, Finset.sum_mul]
  congr 1
  rw [Finset.sum_comm]
  exact Finset.sum_congr rfl fun h _ => Finset.sum_congr rfl fun e _ => by ring

/-- The entry in two steps is real where everything it reads is. -/
theorem twoStep_real (x : E → EReal) (we : H → E → EReal) (be w : H → EReal) (b : EReal) (hx : ∀ e, IsReal (x e))
    (hwe : ∀ h e, IsReal (we h e)) (hbe : ∀ h, IsReal (be h)) (hw : ∀ h, IsReal (w h)) (hb : IsReal b) :
    IsReal (twoStepEntry x we be w b) :=
  (IsReal.sum fun h => ((IsReal.sum fun e => (hx e).mul (hwe h e)).add (hbe h)).mul (hw h)).add hb

/-! ## A score -/

/-- Scaling each query entry by 1/16 before the product is dividing the product by 16. -/
theorem score_eq (q k : C → EReal) (hq : ∀ c, IsReal (q c)) (hk : ∀ c, IsReal (k c)) :
    ∑ c, q c * ((1 / 16 : ℝ) : EReal) * k c = Ideal.div (∑ c, q c * k c) ((16 : ℝ) : EReal) := by
  choose q' hq using hq
  choose k' hk using hk
  rw [Ideal.div_coe (by norm_num : (16 : ℝ) ≠ 0)]
  simp only [hq, hk, ← EReal.coe_mul, coe_sum]
  congr 1
  rw [Finset.sum_mul]
  exact Finset.sum_congr rfl fun c _ => by ring

/-- A quotient of a real number by 16 is real. -/
theorem div16_real {x : EReal} (hx : IsReal x) : IsReal (Ideal.div x ((16 : ℝ) : EReal)) := by
  rw [Ideal.div_coe (by norm_num : (16 : ℝ) ≠ 0)]
  exact hx.mul ⟨_, rfl⟩

/-! ## A row of attention -/

/-- The greatest of a row of scores, minus infinity where there are none. -/
def rowMax (s : M → EReal) : EReal := (Finset.univ : Finset M).fold max ⊥ s

/-- The weight of one score: the exponential of its distance below the row's greatest. -/
def weight (s : M → EReal) (m : M) : EReal := Ideal.exp (s m - rowMax s)

/-- The weighted sum of the values divided by the sum of the weights. -/
def sumThenDivide (s v : M → EReal) : EReal := Ideal.div (∑ m, weight s m * v m) (∑ m, weight s m)

/-- The values summed under the weights, each divided by their sum. -/
def divideThenSum (s v : M → EReal) : EReal := ∑ m, Ideal.div (weight s m) (∑ m', weight s m') * v m

/-- The greatest of a non-empty row of real numbers is real. -/
theorem rowMax_real [Nonempty M] (s : M → EReal) (hs : ∀ m, IsReal (s m)) : IsReal (rowMax s) := by
  refine isReal_of_ne (ne_of_lt ?_) (ne_of_gt ?_)
  · refine (Finset.fold_max_lt _).mpr ⟨bot_lt_top, fun m _ => ?_⟩
    obtain ⟨r, hr⟩ := hs m
    rw [hr]; exact EReal.coe_lt_top r
  · refine (Finset.lt_fold_max _).mpr (Or.inr ⟨Classical.arbitrary M, Finset.mem_univ _, ?_⟩)
    obtain ⟨r, hr⟩ := hs (Classical.arbitrary M)
    rw [hr]; exact EReal.bot_lt_coe r

/-- A sum of extended reals times a real number that is not negative is the sum of the products. -/
theorem sum_mul_coe {ι : Type} (t : Finset ι) (f : ι → EReal) {r : ℝ} (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha,
      EReal.right_distrib_of_nonneg_of_ne_top (EReal.coe_nonneg.mpr hr) (EReal.coe_ne_top r), ih]

/-- Over real scores the two orders agree, whatever the values: the sum of the weights is a positive real. -/
theorem attention_eq [Nonempty M] (s v : M → EReal) (hs : ∀ m, IsReal (s m)) :
    sumThenDivide s v = divideThenSum s v := by
  obtain ⟨x, hx⟩ := rowMax_real s hs
  choose s' hs using hs
  have hw : ∀ m, weight s m = ((Real.exp (s' m - x) : ℝ) : EReal) := fun m => by
    unfold weight; rw [hx, hs, ← EReal.coe_sub, Ideal.exp_coe]
  have hpos : (0 : ℝ) < ∑ m, Real.exp (s' m - x) :=
    Finset.sum_pos (fun m _ => Real.exp_pos _) ⟨Classical.arbitrary M, Finset.mem_univ _⟩
  unfold sumThenDivide divideThenSum
  simp only [hw, coe_sum, Ideal.div_coe hpos.ne']
  rw [sum_mul_coe _ _ (by positivity)]
  exact Finset.sum_congr rfl fun m _ => mul_right_comm _ _ _

/-! ## The literals -/

/-- The word of the scale is 1/16. -/
theorem lit_sixteenth : Ideal.ofBits .f32 0x3D800000#32 = ((1 / 16 : ℝ) : EReal) := by
  simp [Ideal.ofBits, Ideal.ieee, -EReal.coe_mul]; norm_num

/-- The word of the divisor is 16. -/
theorem lit_sixteen : Ideal.ofBits .f32 0x41800000#32 = ((16 : ℝ) : EReal) := by
  simp [Ideal.ofBits, Ideal.ieee, -EReal.coe_mul]; norm_num

/-- The word that stands for an excluded score is a real number. -/
theorem lit_excluded : IsReal (Ideal.ofBits .f32 0xF149F2CA#32) :=
  ⟨_, by simp [Ideal.ofBits, Ideal.ieee, -EReal.coe_mul]; rfl⟩

/-- The word that a maximum starts from is minus infinity. -/
theorem lit_neg_inf : Ideal.ofBits .f32 0xFF800000#32 = ⊥ := by simp [Ideal.ofBits, Ideal.ieee]

/-- The word that the precondition compares with is infinity. -/
theorem lit_inf : Ideal.ofBits .f32 0x7F800000#32 = ⊤ := by simp [Ideal.ofBits, Ideal.ieee]

end Cert.Proof.Math

end
-- ==== Proof.Places.lean ====
/- Hand-written, untrusted: PLACES OF THE PROBLEM'S ARRAYS. A place is its coordinates, and the stacked input weights and the
   heads' columns are numbered. -/
module

public import Idealize.ShloMosaic.Lib.ValueIdx

@[expose] public section

noncomputable section

namespace Cert.Proof.Math

open Idealize.ShloMosaic Idealize.ShloMosaic.ValueIdx

/-- A place of a vector is its coordinate. -/
theorem ext1 {a : Nat} {i : (⟨1, ![a]⟩ : Shape).Idx} {r : Fin a} (h0 : (i 0).val = r.val) : i = ix1 r :=
  funext fun x => match x with
    | ⟨0, _⟩ => Fin.ext h0

/-- A place of a matrix is its row and its column. -/
theorem ext2 {a b : Nat} {i : (⟨2, ![a, b]⟩ : Shape).Idx} {r : Fin a} {d : Fin b} (h0 : (i 0).val = r.val)
    (h1 : (i 1).val = d.val) : i = ix2 r d :=
  funext fun x => match x with
    | ⟨0, _⟩ => Fin.ext h0
    | ⟨1, _⟩ => Fin.ext h1

/-- A place of an array of matrices is its three coordinates. -/
theorem ext3 {a b e : Nat} {i : (⟨3, ![a, b, e]⟩ : Shape).Idx} {g : Fin a} {r : Fin b} {d : Fin e} (h0 : (i 0).val = g.val)
    (h1 : (i 1).val = r.val) (h2 : (i 2).val = d.val) : i = ix3 g r d :=
  funext fun x => match x with
    | ⟨0, _⟩ => Fin.ext h0
    | ⟨1, _⟩ => Fin.ext h1
    | ⟨2, _⟩ => Fin.ext h2

/-- Row `d` of the queries' (0), the keys' (1) or the values' (2) part of the stacked input weights. -/
def inRow (s : Fin 3) (d : Fin 1024) : Fin 3072 := ⟨1024 * s.val + d.val, by have := s.isLt; have := d.isLt; omega⟩

/-- Column `e` of head `h`. -/
def headCol (h : Fin 4) (e : Fin 256) : Fin 1024 := ⟨256 * h.val + e.val, by have := h.isLt; have := e.isLt; omega⟩

/-- The head a column belongs to. -/
def headOf (d : Fin 1024) : Fin 4 := ⟨d.val / 256, by have := d.isLt; omega⟩

/-- A column's place within its head. -/
def headLane (d : Fin 1024) : Fin 256 := ⟨d.val % 256, Nat.mod_lt _ (by decide)⟩

/-- A column is the column of its head at its place within the head. -/
theorem headCol_headOf (d : Fin 1024) : headCol (headOf d) (headLane d) = d := Fin.ext (Nat.div_add_mod _ _)

end Cert.Proof.Math

end
-- ==== Proof.Pre.lean ====
/- Hand-written, untrusted: WHAT THE PRECONDITION SAYS: every entry it reads is a real number: all of the queries, keys and
   values, of the edge weights and offsets and of the stacked input weights, and the queries' and the keys' part of the stacked
   input offsets. -/
module

public import proofs.«01_k».proof.Proof.Gen.Pre_finite_inputs
public import proofs.«01_k».proof.Proof.Math
public import proofs.«01_k».proof.Proof.Places
public import Idealize.ShloMosaic.Lib.Pipeline.Value
public import Idealize.ShloMosaic.Lib.ReduceAll

@[expose] public section

set_option maxRecDepth 16384

noncomputable section

namespace Cert.Pre_finite_inputs.Hand

open Cert.Pre_finite_inputs Cert.Pre_finite_inputs.Gen Cert.Proof.Math
open Idealize.ShloMosaic Idealize.ShloMosaic.ValueIdx

/-- An extended real whose absolute value lies below infinity is a real number. -/
theorem real_of_abs {x : EReal} (h : max x (-x) < ⊤) : IsReal x := by
  refine isReal_of_ne ?_ ?_
  · rintro rfl; exact absurd h (by simp)
  · rintro rfl; exact absurd h (by simp)

/-- The precondition's test on an array, met, makes each entry real. -/
theorem real_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32)))
      (constantI S_ 1 1#1) h hu j = 1#1) (i : s.Idx) : IsReal (x i) := by
  haveI : Subsingleton S_.Idx := ⟨fun a b => funext fun k => k.elim0⟩
  have h1 := Host.reduce_andi_all _ _ _ _ j e i
  have h2 : BitVec.ofBool (decide (max (x i) (-(x i)) < Ideal.ofBits .f32 0x7F800000#32)) = 1#1 := h1
  refine real_of_abs ?_
  rw [lit_inf] at h2
  by_contra hn
  rw [decide_eq_false hn] at h2
  exact absurd h2 (by decide)

/-- The first 2048 input offsets real, the queries' and the keys' parts are. -/
theorem part_real (x7 : FVec Ideal S3072 .f32) (h : S3072.Slices ![0] S2048)
    (hr : ∀ i, IsReal (extractStridedSlice S2048 ![0] x7 h i)) (s : Fin 3) (hs : s ≠ 2) (d : Fin 1024) :
    IsReal (x7 (ix1 (inRow s d))) := by
  have hd := d.isLt
  have hs2 : s.val ≠ 2 := fun e => hs (Fin.ext e)
  have hs3 := s.isLt
  have hlt : 1024 * s.val + d.val < 2048 := by omega
  have he : extractStridedSlice S2048 ![0] x7 h (ix1 ⟨1024 * s.val + d.val, hlt⟩) = x7 (ix1 (inRow s d)) :=
    extractStridedSlice_apply _ x7 h _ _ fun a => match a with
      | ⟨0, _⟩ => (Nat.zero_add _).symm
  exact he ▸ hr _

/-- The precondition, read: what it tests holds real numbers only. -/
theorem reals (x0 : FVec Ideal S2048x1024 .f32) (x1 x2 : FVec Ideal S2048x256 .f32) (x3 : IVec S2048 32)
    (x4 : FVec Ideal S1024x256 .f32) (x5 : FVec Ideal S1024 .f32) (x6 : FVec Ideal S3072x1024 .f32) (x7 : FVec Ideal S3072 .f32)
    (x8 : FVec Ideal S1024x1024 .f32) (x9 : FVec Ideal S1024 .f32)
    (h : fn (F := Ideal) x0 x1 x2 x3 x4 x5 x6 x7 x8 x9 = fun _ => 1#1) :
    (∀ i, IsReal (x0 i)) ∧ (∀ i, IsReal (x1 i)) ∧ (∀ i, IsReal (x2 i)) ∧ (∀ i, IsReal (x4 i)) ∧ (∀ i, IsReal (x5 i))
      ∧ (∀ i, IsReal (x6 i)) ∧ (∀ s : Fin 3, s ≠ 2 → ∀ d, IsReal (x7 (ix1 (inRow s d)))) := by
  let j : S_.Idx := fun k => k.elim0
  have hj := congrFun h j
  unfold fn fn_part1 at hj
  dsimp only at hj
  obtain ⟨hj, h7⟩ := IntOp.andi_eq_one.1 hj
  obtain ⟨hj, h6⟩ := IntOp.andi_eq_one.1 hj
  obtain ⟨hj, h5⟩ := IntOp.andi_eq_one.1 hj
  obtain ⟨hj, h4⟩ := IntOp.andi_eq_one.1 hj
  obtain ⟨hj, h2⟩ := IntOp.andi_eq_one.1 hj
  obtain ⟨h0, h1⟩ := IntOp.andi_eq_one.1 hj
  refine ⟨real_of_all x0 _ _ _ j h0, real_of_all x1 _ _ _ j h1, real_of_all x2 _ _ _ j h2, real_of_all x4 _ _ _ j h4,
    real_of_all x5 _ _ _ j h5, real_of_all x6 _ _ _ j h6, fun s hs d => ?_⟩
  exact part_real x7 _ (fun i => real_of_all _ _ _ _ j h7 i) s hs d

end Cert.Pre_finite_inputs.Hand

end
-- ==== Proof.Pay.lean ====
/- Hand-written, untrusted: WHAT EACH STORE'S PAYLOAD IS, entry by entry, over the extended reals: a matrix product is the sum
   of its terms, a broadcast row or column is that row or column, a reduction over a row is the row's maximum or sum. -/
module

public import proofs.«01_k».proof.Proof.Gen.KernelIdeal.Frame
public import proofs.«01_k».proof.Proof.Math
public import proofs.«01_k».proof.Proof.Places
public import Idealize.ShloMosaic.Lib.MatmulPlain
public import Idealize.ShloMosaic.Lib.Pipeline.Value

@[expose] public section

set_option maxRecDepth 16384

noncomputable section

namespace Cert.KernelIdeal.Hand

open Cert.KernelIdeal Cert.KernelIdeal.Gen Cert.Proof.Math
open Idealize.ShloMosaic
open Idealize.ShloMosaic.ValueIdx
open scoped BigOperators

/-! ## The products -/

/-- A zero accumulator adds nothing. -/
theorem zero_acc {s : Shape} (i : s.Idx) (x : EReal) : (constant s .f32 0x00000000#32 : FVec Ideal s .f32) i + x = x := by
  show Ideal.ofBits .f32 0x00000000#32 + x = x
  rw [Ideal.ofBits_zero_f32, zero_add]

/-- The folded weights: weight row `d` against column `e` of the edge weights. -/
theorem fold_apply (we : FVec Ideal S1024x256 .f32) (w : FVec Ideal S1024x1024 .f32) (d : Fin 1024) (e : Fin 256) :
    k0_pay3 we w (ix2 d e) = ∑ h : Fin 1024, w (ix2 d h) * we (ix2 h e) := by
  unfold k0_pay3 k0_pay1; dsimp only; rw [shapeCast_self]
  exact (Ideal.matmul_plain_apply none w we _ d e).trans (zero_acc _ _)

/-- The second product of the first body is the same function. -/
theorem fold_same : (k0_pay4 : Vec Ideal S1024x256 .f32 → _) = k0_pay3 := rfl

/-- The folded offsets: the edge offset through weight row `d`, plus the weight's own offset. -/
theorem offset_apply (w : FVec Ideal S1024x1024 .f32) (be b : FVec Ideal S1x1024 .f32) (d : Fin 1024) :
    k0_pay5 w be b (ix2 0 d) = ∑ h : Fin 1024, be (ix2 0 h) * w (ix2 d h) + b (ix2 0 d) := by
  unfold k0_pay5 k0_pay1; dsimp only; simp only [shapeCast_self]
  exact congrArg (· + b (ix2 0 d)) ((Ideal.matmul_transposedRhs_apply none be w _ 0 d).trans (zero_acc _ _))

/-- The values' offsets are folded as the keys' are. -/
theorem offset_same : (k0_pay6 : Vec Ideal S1024x1024 .f32 → _) = k0_pay5 := rfl

/-- A row broadcast down a 256-row block. -/
theorem row_apply (x : FVec Ideal S1x1024 .f32) (r : Fin 256) (d : Fin 1024) :
    broadcastTo S256x1024 x broadcasts_S1x1024_S256x1024 (ix2 r d) = x (ix2 0 d) :=
  broadcastTo_apply _ _ _ (ix2 0 d) (fun a => match a with
    | ⟨0, _⟩ => rfl
    | ⟨1, _⟩ => rfl)

/-- A projected block: block row `r` against folded weight row `d`, plus the folded offset. -/
theorem proj_apply (x : FVec Ideal S256x256 .f32) (w : FVec Ideal S1024x256 .f32) (b : FVec Ideal S1x1024 .f32) (r : Fin 256)
    (d : Fin 1024) : k1_pay1 x w b (ix2 r d) = ∑ e : Fin 256, x (ix2 r e) * w (ix2 d e) + b (ix2 0 d) := by
  unfold k1_pay1; simp only [shapeCast_self]
  exact congrArg₂ (· + ·) ((Ideal.matmul_transposedRhs_apply none x w _ r d).trans (zero_acc _ _)) (row_apply b r d)

/-- The scaled queries of a block. -/
theorem query_apply (x : FVec Ideal S256x1024 .f32) (w : FVec Ideal S1024x1024 .f32) (b : FVec Ideal S1x1024 .f32) (r : Fin 256)
    (d : Fin 1024) : k2_pay3 x w b (ix2 r d)
      = (∑ h : Fin 1024, x (ix2 r h) * w (ix2 d h) + b (ix2 0 d)) * Ideal.ofBits .f32 0x3D800000#32 := by
  unfold k2_pay3; simp only [shapeCast_self]
  exact congrArg (· * Ideal.ofBits .f32 0x3D800000#32)
    (congrArg₂ (· + ·) ((Ideal.matmul_transposedRhs_apply none x w _ r d).trans (zero_acc _ _)) (row_apply b r d))

/-- The mask of a block: whether the row's graph index is the column's. -/
theorem mask_apply (gc : Vec Ideal S256x128 .i32) (gr : Vec Ideal S1x2048 .i32) (r : Fin 256) (j : Fin 2048) :
    k2_pay2 gc gr (ix2 r j) = IntOp.cmpi .eq (gc (ix2 r 0)) (gr (ix2 0 j)) := by
  unfold k2_pay2; simp only [shapeCast_self]
  refine congrArg₂ (IntOp.cmpi .eq) ?_ ?_
  · refine (broadcastTo_apply _ _ _ (ix2 r 0) (fun a => match a with
      | ⟨0, _⟩ => rfl
      | ⟨1, _⟩ => rfl)).trans ?_
    exact extractStridedSlice_apply _ _ _ _ (ix2 r 0) (fun a => match a with
      | ⟨0, _⟩ => (Nat.zero_add _).symm
      | ⟨1, _⟩ => rfl)
  · exact broadcastTo_apply _ _ _ (ix2 0 j) (fun a => match a with
      | ⟨0, _⟩ => rfl
      | ⟨1, _⟩ => rfl)

/-! ## One head -/

/-- A column of row values, broadcast across `n` lanes. -/
theorem col_apply (x : FVec Ideal S256 .f32) (r : Fin 256) (j : Fin 2048) :
    broadcastTo S256x2048 (shapeCast S256x1 x shapeCasts_S256_S256x1) broadcasts_S256x1_S256x2048 (ix2 r j) = x (ix1 r) := by
  refine (broadcastTo_apply _ _ _ (ix2 r 0) (fun a => match a with
      | ⟨0, _⟩ => rfl
      | ⟨1, _⟩ => rfl)).trans ?_
  exact shapeCast_apply _ _ _ (ix1 r) (by rw [Shape.rowMajor_val_one, Shape.rowMajor_val_two]; simp [ix1, ix2])

/-- The same across the 256 lanes of a head. -/
theorem col_apply' (x : FVec Ideal S256 .f32) (r : Fin 256) (j : Fin 256) :
    broadcastTo S256x256 (shapeCast S256x1 x shapeCasts_S256_S256x1) broadcasts_S256x1_S256x256 (ix2 r j) = x (ix1 r) := by
  refine (broadcastTo_apply _ _ _ (ix2 r 0) (fun a => match a with
      | ⟨0, _⟩ => rfl
      | ⟨1, _⟩ => rfl)).trans ?_
  exact shapeCast_apply _ _ _ (ix1 r) (by rw [Shape.rowMajor_val_one, Shape.rowMajor_val_two]; simp [ix1, ix2])

/-- A row's maximum, as the reduction over the lanes computes it. -/
theorem max_apply (x : FVec Ideal S256x2048 .f32) (r : Fin 256) :
    multiReduction .maximumf [1] S256 x 0xFF800000#32 reduces_S256x2048_S256 (.inl rfl) rfl (ix1 r)
      = rowMax fun j : Fin 2048 => x (ix2 r j) := by
  refine (Ideal.multiReduction_maximumf_single x _ reduces_S256x2048_S256 _ rfl (ix1 r)).trans ?_
  show Finset.fold max (Ideal.ofBits .f32 0xFF800000#32) _ _ = _
  rw [lit_neg_inf]
  refine Finset.fold_congr fun j _ => congrArg x ?_
  funext a; match a with
  | ⟨0, _⟩ => rfl
  | ⟨1, _⟩ => rfl

/-- A row's sum, as the reduction over the lanes computes it. -/
theorem sum_apply (x : FVec Ideal S256x2048 .f32) (r : Fin 256) :
    multiReduction .add [1] S256 x 0x00000000#32 reduces_S256x2048_S256 (.inl rfl) rfl (ix1 r) = ∑ j : Fin 2048, x (ix2 r j) := by
  refine (Ideal.multiReduction_add_single x _ reduces_S256x2048_S256 _ rfl (ix1 r)).trans ?_
  refine Finset.sum_congr rfl fun j _ => congrArg x ?_
  funext a; match a with
  | ⟨0, _⟩ => rfl
  | ⟨1, _⟩ => rfl

/-- A block's scores of one head: queries against keys, the excluded places at the fill value. -/
def scores (mask : IVec S256x2048 1) (q : FVec Ideal S256x256 .f32) (k : FVec Ideal S2048x256 .f32) : FVec Ideal S256x2048 .f32 :=
  select mask (matmul dot_S256x256_S2048x256_S256x2048_1_1_0_0_n_n none q k (constant S256x2048 .f32 0x00000000#32))
    (broadcast S256x2048 (Ideal.ofBits .f32 0xF149F2CA#32))

/-- The exponentials of a block's scores, each row shifted by its maximum. -/
def weights (s : FVec Ideal S256x2048 .f32) : FVec Ideal S256x2048 .f32 :=
  exp (subf s (broadcastTo S256x2048 (shapeCast S256x1
    (multiReduction .maximumf [1] S256 s 0xFF800000#32 reduces_S256x2048_S256 (.inl rfl) rfl) shapeCasts_S256_S256x1)
    broadcasts_S256x1_S256x2048))

/-- A masked score: the product of a query row and a key row where the mask is set, the excluded word elsewhere. -/
theorem scores_apply (mask : IVec S256x2048 1) (q : FVec Ideal S256x256 .f32) (k : FVec Ideal S2048x256 .f32) (r : Fin 256)
    (j : Fin 2048) : scores mask q k (ix2 r j)
      = Scalar.select (mask (ix2 r j)) (∑ e : Fin 256, q (ix2 r e) * k (ix2 j e)) (Ideal.ofBits .f32 0xF149F2CA#32) :=
  congrArg (fun x : EReal => Scalar.select (mask (ix2 r j)) x (Ideal.ofBits .f32 0xF149F2CA#32))
    ((Ideal.matmul_transposedRhs_apply none q k _ r j).trans (zero_acc (ix2 r j) _))

/-- A weight: the exponential of a score less its row's greatest. -/
theorem weights_apply (s : FVec Ideal S256x2048 .f32) (r : Fin 256) (j : Fin 2048) :
    weights s (ix2 r j) = weight (fun j : Fin 2048 => s (ix2 r j)) j := by
  show Ideal.exp (s (ix2 r j) - _) = _
  rw [col_apply, max_apply]
  rfl

/-- One head is its weighted values over the sum of its weights. -/
theorem head_eq (mask : IVec S256x2048 1) (q : FVec Ideal S256x256 .f32) (k v : FVec Ideal S2048x256 .f32) :
    k2_pay6 mask q k v = divf (matmul dot_S256x2048_S2048x256_S256x256_1_0_0_1_n_n none (weights (scores mask q k)) v
        (constant S256x256 .f32 0x00000000#32))
      (broadcastTo S256x256 (shapeCast S256x1
        (multiReduction .add [1] S256 (weights (scores mask q k)) 0x00000000#32 reduces_S256x2048_S256 (.inl rfl) rfl)
        shapeCasts_S256_S256x1) broadcasts_S256x1_S256x256) := by
  unfold k2_pay6; dsimp only; simp only [shapeCast_self]; rfl

/-- One head's result: the row's scores, the excluded ones at the fill value, weigh the values. -/
theorem head_apply (mask : IVec S256x2048 1) (q : FVec Ideal S256x256 .f32) (k v : FVec Ideal S2048x256 .f32) (r c : Fin 256) :
    k2_pay6 mask q k v (ix2 r c)
      = sumThenDivide (fun j : Fin 2048 => Scalar.select (mask (ix2 r j)) (∑ e : Fin 256, q (ix2 r e) * k (ix2 j e))
            (Ideal.ofBits .f32 0xF149F2CA#32))
          (fun j : Fin 2048 => v (ix2 j c)) := by
  have hf : (fun j : Fin 2048 => scores mask q k (ix2 r j)) = _ := funext fun j => scores_apply mask q k r j
  rw [← hf, head_eq]
  refine congrArg₂ Ideal.div ?_ ?_
  · refine ((Ideal.matmul_plain_apply none _ v _ r c).trans (zero_acc _ _)).trans (Finset.sum_congr rfl fun j _ => ?_)
    rw [weights_apply]
  · refine ((col_apply' _ r c).trans (sum_apply _ r)).trans (Finset.sum_congr rfl fun j _ => ?_)
    rw [weights_apply]

end Cert.KernelIdeal.Hand

end
-- ==== Proof.Fold.lean ====
/- Hand-written, untrusted: THE ARRAYS AFTER THE FIRST LAUNCH, which has one point and whole arrays for blocks: each result is its
   store's payload of the arrays the launch finds. -/
module

public import proofs.«01_k».proof.Proof.Pay
public import Idealize.ShloMosaic.Lib.Pipeline.ValueKit

@[expose] public section

set_option maxRecDepth 16384

noncomputable section

namespace Cert.KernelIdeal.Hand

open Cert.KernelIdeal Cert.KernelIdeal.Gen Cert.Proof.Math
open Idealize.ShloMosaic hiding ix1 ix2 ix3
open Idealize.ShloMosaic.ValueIdx Idealize.ShloMosaic.TcCoe
open scoped BigOperators

variable (V : (c : Dev nD) → (b : Ref sig .tc) → Buf (Elt Ideal) ((c : Thread nD τ).loc b)) (c : Dev nD)

/-! ## Each input block is its array -/

/-- Window 0 starts at the first row and column, at every point. -/
theorem at0_0 : ∀ t : Fin cfg0.N, win0_0.index t = ![0, 0] := (by decide +kernel : ∀ t : Fin grid0.N, _)

/-- Window 0 brings in the edge weights, whole. -/
theorem blk0_0 (t : Fin cfg0.N) : iblk0 V c 0 t = V c main_arg4 := by
  funext y
  blk_simp [iblk0]
  refine congrArg (V c main_arg4) ?_
  blk_ext [at0_0]

/-- Window 1 starts at the first row and column, at every point. -/
theorem at0_1 : ∀ t : Fin cfg0.N, win0_1.index t = ![0, 0] := (by decide +kernel : ∀ t : Fin grid0.N, _)

/-- Window 1 brings in the keys' input weights, whole. -/
theorem blk0_1 (t : Fin cfg0.N) : iblk0 V c 1 t = V c main_v1 := by
  funext y
  blk_simp [iblk0]
  refine congrArg (V c main_v1) ?_
  blk_ext [at0_1]

/-- Window 2 starts at the first row and column, at every point. -/
theorem at0_2 : ∀ t : Fin cfg0.N, win0_2.index t = ![0, 0] := (by decide +kernel : ∀ t : Fin grid0.N, _)

/-- Window 2 brings in the values' input weights, whole. -/
theorem blk0_2 (t : Fin cfg0.N) : iblk0 V c 2 t = V c main_v2 := by
  funext y
  blk_simp [iblk0]
  refine congrArg (V c main_v2) ?_
  blk_ext [at0_2]

/-- Window 3 starts at the first row and column, at every point. -/
theorem at0_3 : ∀ t : Fin cfg0.N, win0_3.index t = ![0, 0] := (by decide +kernel : ∀ t : Fin grid0.N, _)

/-- Window 3 brings in the edge offsets, whole. -/
theorem blk0_3 (t : Fin cfg0.N) : iblk0 V c 3 t = V c main_v9 := by
  funext y
  blk_simp [iblk0]
  refine congrArg (V c main_v9) ?_
  blk_ext [at0_3]

/-- Window 4 starts at the first row and column, at every point. -/
theorem at0_4 : ∀ t : Fin cfg0.N, win0_4.index t = ![0, 0] := (by decide +kernel : ∀ t : Fin grid0.N, _)

/-- Window 4 brings in the keys' input offsets, whole. -/
theorem blk0_4 (t : Fin cfg0.N) : iblk0 V c 4 t = V c main_v6 := by
  funext y
  blk_simp [iblk0]
  refine congrArg (V c main_v6) ?_
  blk_ext [at0_4]

/-- Window 5 starts at the first row and column, at every point. -/
theorem at0_5 : ∀ t : Fin cfg0.N, win0_5.index t = ![0, 0] := (by decide +kernel : ∀ t : Fin grid0.N, _)

/-- Window 5 brings in the values' input offsets, whole. -/
theorem blk0_5 (t : Fin cfg0.N) : iblk0 V c 5 t = V c main_v8 := by
  funext y
  blk_simp [iblk0]
  refine congrArg (V c main_v8) ?_
  blk_ext [at0_5]

/-! ## The results -/

/-- Window 6 starts at the first row and column, at every point. -/
theorem at0_6 : ∀ t : Fin cfg0.N, win0_6.index t = ![0, 0] := (by decide +kernel : ∀ t : Fin grid0.N, _)

/-- The keys' folded weights. -/
theorem arr0_6 : (dat0 V c).arrAt 6 cfg0.N = k0_pay3 (V c main_arg4) (V c main_v1) := by
  refine (dat0 V c).arrAt_eq_of_covers 6 _ (by decide +kernel) fun t hf y => ?_
  blk_simp
  rw [after0_6]; frame_out
  rw [blk0_0, blk0_1]
  refine congrArg (k0_pay3 (V c main_arg4) (V c main_v1)) ?_
  blk_ext [at0_6]

/-- Window 7 starts at the first row and column, at every point. -/
theorem at0_7 : ∀ t : Fin cfg0.N, win0_7.index t = ![0, 0] := (by decide +kernel : ∀ t : Fin grid0.N, _)

/-- The values' folded weights. -/
theorem arr0_7 : (dat0 V c).arrAt 7 cfg0.N = k0_pay4 (V c main_arg4) (V c main_v2) := by
  refine (dat0 V c).arrAt_eq_of_covers 7 _ (by decide +kernel) fun t hf y => ?_
  blk_simp
  rw [after0_7]; frame_out
  rw [blk0_0, blk0_2]
  refine congrArg (k0_pay4 (V c main_arg4) (V c main_v2)) ?_
  blk_ext [at0_7]

/-- Window 8 starts at the first row and column, at every point. -/
theorem at0_8 : ∀ t : Fin cfg0.N, win0_8.index t = ![0, 0] := (by decide +kernel : ∀ t : Fin grid0.N, _)

/-- The keys' folded offsets. -/
theorem arr0_8 : (dat0 V c).arrAt 8 cfg0.N = k0_pay5 (V c main_v1) (V c main_v9) (V c main_v6) := by
  refine (dat0 V c).arrAt_eq_of_covers 8 _ (by decide +kernel) fun t hf y => ?_
  blk_simp
  rw [after0_8]; frame_out
  rw [blk0_1, blk0_3, blk0_4]
  refine congrArg (k0_pay5 (V c main_v1) (V c main_v9) (V c main_v6)) ?_
  blk_ext [at0_8]

/-- Window 9 starts at the first row and column, at every point. -/
theorem at0_9 : ∀ t : Fin cfg0.N, win0_9.index t = ![0, 0] := (by decide +kernel : ∀ t : Fin grid0.N, _)

/-- The values' folded offsets. -/
theorem arr0_9 : (dat0 V c).arrAt 9 cfg0.N = k0_pay6 (V c main_v2) (V c main_v9) (V c main_v8) := by
  refine (dat0 V c).arrAt_eq_of_covers 9 _ (by decide +kernel) fun t hf y => ?_
  blk_simp
  rw [after0_9]; frame_out
  rw [blk0_2, blk0_3, blk0_5]
  refine congrArg (k0_pay6 (V c main_v2) (V c main_v9) (V c main_v8)) ?_
  blk_ext [at0_9]

end Cert.KernelIdeal.Hand

end
-- ==== Proof.Proj.lean ====
/- Hand-written, untrusted: THE ARRAYS AFTER THE SECOND LAUNCH: its eight points project the rows of the keys and of the values, 256 at a
   time, through the folded weights and offsets, and their blocks make up the whole arrays. -/
module

public import proofs.«01_k».proof.Proof.Pay
public import Idealize.ShloMosaic.Lib.Pipeline.ValueKit

@[expose] public section

set_option maxRecDepth 16384

noncomputable section

namespace Cert.KernelIdeal.Hand

open Cert.KernelIdeal Cert.KernelIdeal.Gen Cert.Proof.Math
open Idealize.ShloMosaic hiding ix1 ix2 ix3
open Idealize.ShloMosaic.ValueIdx Idealize.ShloMosaic.TcCoe
open scoped BigOperators

variable (V : (c : Dev nD) → (b : Ref sig .tc) → Buf (Elt Ideal) ((c : Thread nD τ).loc b)) (c : Dev nD)

/-- A projected array: row against folded weight row, plus the folded offset. -/
def projected (x : FVec Ideal S2048x256 .f32) (w : FVec Ideal S1024x256 .f32) (b : FVec Ideal S1x1024 .f32) :
    FVec Ideal S2048x1024 .f32 :=
  fun i => ∑ e : Fin 256, x (ix2 (i 0) e) * w (ix2 (i 1) e) + b (ix2 0 (i 1))

/-! ## The input blocks -/

/-- Window 2 starts at the first row and column, at every point. -/
theorem at1_2 : ∀ t : Fin cfg1.N, win1_2.index t = ![0, 0] := (by decide +kernel : ∀ t : Fin grid1.N, _)

/-- Window 2 brings in the keys' folded weights, whole. -/
theorem blk1_2 (t : Fin cfg1.N) : iblk1 V c 2 t = V c main_v11_0 := by
  funext y
  blk_simp [iblk1]
  refine congrArg (V c main_v11_0) ?_
  blk_ext [at1_2]

/-- Window 3 starts at the first row and column, at every point. -/
theorem at1_3 : ∀ t : Fin cfg1.N, win1_3.index t = ![0, 0] := (by decide +kernel : ∀ t : Fin grid1.N, _)

/-- Window 3 brings in the keys' folded offsets, whole. -/
theorem blk1_3 (t : Fin cfg1.N) : iblk1 V c 3 t = V c main_v11_2 := by
  funext y
  blk_simp [iblk1]
  refine congrArg (V c main_v11_2) ?_
  blk_ext [at1_3]

/-- Window 4 starts at the first row and column, at every point. -/
theorem at1_4 : ∀ t : Fin cfg1.N, win1_4.index t = ![0, 0] := (by decide +kernel : ∀ t : Fin grid1.N, _)

/-- Window 4 brings in the values' folded weights, whole. -/
theorem blk1_4 (t : Fin cfg1.N) : iblk1 V c 4 t = V c main_v11_1 := by
  funext y
  blk_simp [iblk1]
  refine congrArg (V c main_v11_1) ?_
  blk_ext [at1_4]

/-- Window 5 starts at the first row and column, at every point. -/
theorem at1_5 : ∀ t : Fin cfg1.N, win1_5.index t = ![0, 0] := (by decide +kernel : ∀ t : Fin grid1.N, _)

/-- Window 5 brings in the values' folded offsets, whole. -/
theorem blk1_5 (t : Fin cfg1.N) : iblk1 V c 5 t = V c main_v11_3 := by
  funext y
  blk_simp [iblk1]
  refine congrArg (V c main_v11_3) ?_
  blk_ext [at1_5]

/-- Window 0 moves down by one block a point. -/
theorem at1_0 : ∀ t : Fin cfg1.N, win1_0.index t = ![(grid1.coords t 0).val, 0] := (by decide +kernel : ∀ t : Fin grid1.N, _)

/-- Row of window 0's block in its array: 256 rows a point. -/
theorem row1_0 (t : Fin cfg1.N) (y) : (((win1_0.blk t).view.emb y) 0).val = (grid1.coords t 0).val * 256 + (y 0).val := by
  blk_simp [at1_0]

/-- Column of window 0's block in its array: the same. -/
theorem col1_0 (t : Fin cfg1.N) (y) : (((win1_0.blk t).view.emb y) 1).val = (y 1).val := by
  blk_simp [at1_0]

/-- Window 1 moves down by one block a point. -/
theorem at1_1 : ∀ t : Fin cfg1.N, win1_1.index t = ![(grid1.coords t 0).val, 0] := (by decide +kernel : ∀ t : Fin grid1.N, _)

/-- Row of window 1's block in its array: 256 rows a point. -/
theorem row1_1 (t : Fin cfg1.N) (y) : (((win1_1.blk t).view.emb y) 0).val = (grid1.coords t 0).val * 256 + (y 0).val := by
  blk_simp [at1_1]

/-- Column of window 1's block in its array: the same. -/
theorem col1_1 (t : Fin cfg1.N) (y) : (((win1_1.blk t).view.emb y) 1).val = (y 1).val := by
  blk_simp [at1_1]

/-- Window 6 moves down by one block a point. -/
theorem at1_6 : ∀ t : Fin cfg1.N, win1_6.index t = ![(grid1.coords t 0).val, 0] := (by decide +kernel : ∀ t : Fin grid1.N, _)

/-- Row of window 6's block in its array: 256 rows a point. -/
theorem row1_6 (t : Fin cfg1.N) (y) : (((win1_6.blk t).view.emb y) 0).val = (grid1.coords t 0).val * 256 + (y 0).val := by
  blk_simp [at1_6]

/-- Column of window 6's block in its array: the same. -/
theorem col1_6 (t : Fin cfg1.N) (y) : (((win1_6.blk t).view.emb y) 1).val = (y 1).val := by
  blk_simp [at1_6]

/-- Window 7 moves down by one block a point. -/
theorem at1_7 : ∀ t : Fin cfg1.N, win1_7.index t = ![(grid1.coords t 0).val, 0] := (by decide +kernel : ∀ t : Fin grid1.N, _)

/-- Row of window 7's block in its array: 256 rows a point. -/
theorem row1_7 (t : Fin cfg1.N) (y) : (((win1_7.blk t).view.emb y) 0).val = (grid1.coords t 0).val * 256 + (y 0).val := by
  blk_simp [at1_7]

/-- Column of window 7's block in its array: the same. -/
theorem col1_7 (t : Fin cfg1.N) (y) : (((win1_7.blk t).view.emb y) 1).val = (y 1).val := by
  blk_simp [at1_7]

/-! ## The results -/

/-- The keys. -/
theorem arr1_6 : (dat1 V c).arrAt 6 cfg1.N = projected (V c main_arg1) (V c main_v11_0) (V c main_v11_2) := by
  refine (dat1 V c).arrAt_eq_of_covers 6 _ (by decide +kernel) fun t hf y => ?_
  blk_simp
  rw [after1_6]; frame_out
  rw [blk1_2, blk1_3]
  obtain ⟨r, d, rfl⟩ : ∃ (r : Fin 256) (d : Fin 1024), y = ix2 r d := ⟨y 0, y 1, ValueIdx.eq_ix2 y⟩
  refine (proj_apply _ _ _ r d).trans ?_
  have e1 : ((win1_6.blk t).view.emb (ix2 r d)) 1 = d := by
    exact Fin.ext (col1_6 t _)
  unfold projected
  refine congrArg₂ (· + ·) (Finset.sum_congr rfl fun e _ => congrArg₂ (· * ·) ?_ ?_) ?_
  · blk_simp [iblk1]
    refine congrArg (V c main_arg1) ?_
    exact ext2 ((row1_0 t _).trans (row1_6 t (ix2 r d)).symm) (col1_0 t _)
  · exact congrArg (fun d => V c main_v11_0 (ix2 d e)) e1.symm
  · exact congrArg (fun d => V c main_v11_2 (ix2 0 d)) e1.symm

/-- The values. -/
theorem arr1_7 : (dat1 V c).arrAt 7 cfg1.N = projected (V c main_arg2) (V c main_v11_1) (V c main_v11_3) := by
  refine (dat1 V c).arrAt_eq_of_covers 7 _ (by decide +kernel) fun t hf y => ?_
  blk_simp
  rw [after1_7]; frame_out
  rw [blk1_4, blk1_5]
  obtain ⟨r, d, rfl⟩ : ∃ (r : Fin 256) (d : Fin 1024), y = ix2 r d := ⟨y 0, y 1, ValueIdx.eq_ix2 y⟩
  refine (proj_apply _ _ _ r d).trans ?_
  have e1 : ((win1_7.blk t).view.emb (ix2 r d)) 1 = d := by
    exact Fin.ext (col1_7 t _)
  unfold projected
  refine congrArg₂ (· + ·) (Finset.sum_congr rfl fun e _ => congrArg₂ (· * ·) ?_ ?_) ?_
  · blk_simp [iblk1]
    refine congrArg (V c main_arg2) ?_
    exact ext2 ((row1_1 t _).trans (row1_7 t (ix2 r d)).symm) (col1_1 t _)
  · exact congrArg (fun d => V c main_v11_1 (ix2 d e)) e1.symm
  · exact congrArg (fun d => V c main_v11_3 (ix2 0 d)) e1.symm

end Cert.KernelIdeal.Hand

end
-- ==== Proof.Attn.lean ====
/- Hand-written, untrusted: WHAT ONE POINT OF THE ATTENTION LAUNCH WRITES, entry by entry, over the extended reals. The four heads
   of the body compute one function (`k2_pay6`) of four slices of the queries, keys and values; their results side by side
   go through the output weights. -/
module

public import proofs.«01_k».proof.Proof.Pay
public import Idealize.ShloMosaic.Lib.Pipeline.ValueKit

@[expose] public section

set_option maxRecDepth 16384

noncomputable section

namespace Cert.KernelIdeal.Hand

open Cert.KernelIdeal Cert.KernelIdeal.Gen Cert.Proof.Math
open Idealize.ShloMosaic hiding ix1 ix2 ix3
open Idealize.ShloMosaic.ValueIdx
open scoped BigOperators

/-! ## The four heads together -/

/-- Head `n`'s 256 columns of a row-blocked array. -/
def slab {R : Nat} (x : FVec Ideal ⟨2, ![R, 1024]⟩ .f32) (n : Fin 4) : FVec Ideal ⟨2, ![R, 256]⟩ .f32 :=
  fun i => x (ix2 (i 0) (headCol n (i 1)))

/-- A slice of the scaled queries at a head's first column is that head's columns. -/
theorem slice_slab (x : FVec Ideal S256x1024 .f32) (n : Fin 4) (o : Nat) (ho : o = 256 * n.val)
    (h : S256x1024.Slices ![0, o] S256x256) : extractStridedSlice S256x256 ![0, o] x h = slab x n := by
  subst ho
  funext i
  exact extractStridedSlice_apply _ _ _ _ (ix2 (i 0) (headCol n (i 1))) (fun a => match a with
    | ⟨0, _⟩ => (Nat.zero_add _).symm
    | ⟨1, _⟩ => rfl)

/-- A load of 256 columns from a head's first is that head's columns. -/
theorem load_slab (x : FVec Ideal S2048x1024 .f32) (n : Fin 4) (o : Nat) (ho : o = 256 * n.val)
    (inb : ∀ a, (![0, o] : Fin 2 → Nat) a + S2048x256.size a ≤ S2048x1024.size a) :
    View.ld (Val := Elt Ideal) (e' := .f32) x (Rect.unit (s := S2048x1024) ![0, o] S2048x256.size inb) = slab x n := by
  subst ho
  funext i
  exact View.ld_unit_apply_of (Val := Elt Ideal) (e := .f32) x _ _ inb i (ix2 (i 0) (headCol n (i 1))) (fun a => match a with
    | ⟨0, _⟩ => (Nat.zero_add _).symm
    | ⟨1, _⟩ => rfl)

/-- The row of graph indices is read from the first of its eight copies. -/
theorem load_row (x : Vec Ideal S8x2048 .i32) (j : Fin 2048) :
    View.ld (Val := Elt Ideal) (e' := .i32) x r2_1 (ix2 0 j) = x (ix2 0 j) :=
  View.ld_unit_apply_of (Val := Elt Ideal) (e := .i32) x _ _ _ _ _ (fun a => match a with
    | ⟨0, _⟩ => rfl
    | ⟨1, _⟩ => (Nat.zero_add _).symm)

/-- Head `n`'s result of a block, from the block's mask and scaled queries and the whole keys and values. -/
def headOut (mask : IVec S256x2048 1) (q : FVec Ideal S256x1024 .f32) (k v : FVec Ideal S2048x1024 .f32) (n : Fin 4) :
    FVec Ideal S256x256 .f32 := k2_pay6 mask (slab q n) (slab k n) (slab v n)

/-- The heads side by side, at column `d`: its head's result at the column within the head. -/
theorem heads_apply (f : Fin 4 → FVec Ideal S256x256 .f32) (r : Fin 256) (d : Fin 1024) :
    concatenate S256x1024 1 [⟨S256x256, f 0⟩, ⟨S256x256, f 1⟩, ⟨S256x256, f 2⟩, ⟨S256x256, f 3⟩]
        concatenates_S256x256_S256x256_S256x256_S256x256_S256x1024_d1 (ix2 r d) = f (headOf d) (ix2 r (headLane d)) :=
  concatenate_ofFn_apply (t := S256x1024) (s₁ := S256x256) 1 f concatenates_S256x256_S256x256_S256x256_S256x256_S256x1024_d1
    rfl 256 rfl (ix2 r d) (headOf d) rfl (ix2 r (headLane d)) rfl (fun b hb => match b, hb with
      | ⟨0, _⟩, _ => rfl
      | ⟨1, _⟩, hb => absurd rfl hb)

/-- The last store's payload, with the fourth head's division spelt out. -/
theorem out_parts (mask : IVec S256x2048 1) (a0 a1 a2 q : FVec Ideal S256x256 .f32) (k v : FVec Ideal S2048x256 .f32)
    (x : FVec Ideal S256x1024 .f32) (bo : FVec Ideal S1x1024 .f32) (wo : FVec Ideal S1024x1024 .f32) :
    k2_pay1 mask x a0 a1 a2
        (matmul dot_S256x256_S2048x256_S256x2048_1_1_0_0_n_n none q k (constant S256x2048 .f32 0x00000000#32))
        (Ideal.ofBits .f32 0xF149F2CA#32) v bo wo
      = addf (addf x (broadcastTo S256x1024 bo broadcasts_S1x1024_S256x1024))
          (matmul dot_S256x1024_S1024x1024_S256x1024_1_1_0_0_n_n none
            (concatenate S256x1024 1 [⟨S256x256, a0⟩, ⟨S256x256, a1⟩, ⟨S256x256, a2⟩,
              ⟨S256x256, divf (matmul dot_S256x2048_S2048x256_S256x256_1_0_0_1_n_n none (weights (scores mask q k)) v
                (constant S256x256 .f32 0x00000000#32))
              (broadcastTo S256x256 (shapeCast S256x1
                (multiReduction .add [1] S256 (weights (scores mask q k)) 0x00000000#32 reduces_S256x2048_S256 (.inl rfl) rfl)
                shapeCasts_S256_S256x1) broadcasts_S256x1_S256x256)⟩]
              concatenates_S256x256_S256x256_S256x256_S256x256_S256x1024_d1) wo (constant S256x1024 .f32 0x00000000#32)) := by
  unfold k2_pay1 weights scores; dsimp only; simp only [shapeCast_self]
  generalize hv : shapeCast S2048x256 v shapeCasts_S2048x256_S2048x256 = v'
  rw [shapeCast_self] at hv
  subst hv
  rfl

/-- The last store's payload: the block plus the output offset, plus the heads side by side through the output weights. -/
theorem out_eq (mask : IVec S256x2048 1) (q : FVec Ideal S256x1024 .f32) (k v : FVec Ideal S2048x1024 .f32)
    (x : FVec Ideal S256x1024 .f32) (bo : FVec Ideal S1x1024 .f32) (wo : FVec Ideal S1024x1024 .f32) (r : Fin 256) (o : Fin 1024) :
    k2_pay1 mask x (headOut mask q k v 0) (headOut mask q k v 1) (headOut mask q k v 2)
        (matmul dot_S256x256_S2048x256_S256x2048_1_1_0_0_n_n none (slab q 3) (slab k 3) (constant S256x2048 .f32 0x00000000#32))
        (Ideal.ofBits .f32 0xF149F2CA#32) (slab v 3) bo wo (ix2 r o)
      = (x (ix2 r o) + bo (ix2 0 o))
        + ∑ d : Fin 1024, headOut mask q k v (headOf d) (ix2 r (headLane d)) * wo (ix2 o d) := by
  rw [out_parts, ← show headOut mask q k v 3 = _ from head_eq mask (slab q 3) (slab k 3) (slab v 3)]
  refine congrArg₂ (· + ·) (congrArg (x (ix2 r o) + ·) (row_apply bo r o)) ?_
  refine ((Ideal.matmul_transposedRhs_apply none _ wo _ r o).trans (zero_acc _ _)).trans (Finset.sum_congr rfl fun d _ => ?_)
  exact congrArg (· * wo (ix2 o d)) (heads_apply (headOut mask q k v) r d)

/-- The first head's payload is the heads' function of the mask and its slice of the scaled queries. -/
theorem first_head (gc : Vec Ideal S256x128 .i32) (gr : Vec Ideal S1x2048 .i32) (x : FVec Ideal S256x1024 .f32)
    (w : FVec Ideal S1024x1024 .f32) (b : FVec Ideal S1x1024 .f32) (k v : FVec Ideal S2048x256 .f32) (q : FVec Ideal S256x256 .f32)
    (hq : extractStridedSlice S256x256 ![0, 0] (k2_pay3 x w b) slices_S256x1024_o0_0_S256x256 = q) :
    k2_pay4 gc gr x w b k v = k2_pay6 (k2_pay2 gc gr) q k v := by
  unfold k2_pay4 k2_pay6; dsimp only; rw [hq]

/-- So is the second's. -/
theorem second_head (mask : IVec S256x2048 1) (x : FVec Ideal S256x1024 .f32) (w : FVec Ideal S1024x1024 .f32)
    (b : FVec Ideal S1x1024 .f32) (k v : FVec Ideal S2048x256 .f32) (q : FVec Ideal S256x256 .f32)
    (hq : extractStridedSlice S256x256 ![0, 256] (k2_pay3 x w b) slices_S256x1024_o0_256_S256x256 = q) :
    k2_pay6 mask (k2_pay5 x w b) k v = k2_pay6 mask q k v := by
  unfold k2_pay5; dsimp only; rw [hq]

/-- So is the third's. -/
theorem third_head (mask : IVec S256x2048 1) (p : FVec Ideal S256x1024 .f32) (k v : FVec Ideal S2048x256 .f32)
    (q : FVec Ideal S256x256 .f32) (hq : extractStridedSlice S256x256 ![0, 512] p slices_S256x1024_o0_512_S256x256 = q) :
    k2_pay7 mask p k v = k2_pay6 mask q k v := by
  unfold k2_pay7 k2_pay6; dsimp only; rw [hq]

/-- **What a point of the attention launch writes**, from its input blocks, at row `r` and output column `o`. -/
theorem attn_block_apply (x0 : Vec Ideal S256x128 .i32) (x1 : Vec Ideal S8x2048 .i32) (x2 : FVec Ideal S256x1024 .f32)
    (x3 : FVec Ideal S1024x1024 .f32) (x4 : FVec Ideal S1x1024 .f32) (x5 x6 : FVec Ideal S2048x1024 .f32)
    (x7 : FVec Ideal S1024x1024 .f32) (x8 : FVec Ideal S1x1024 .f32) (r : Fin 256) (o : Fin 1024) :
    out2_9 (F := Ideal) x0 x1 x2 x3 x4 x5 x6 x7 x8 (ix2 r o)
      = (x2 (ix2 r o) + x8 (ix2 0 o))
        + ∑ d : Fin 1024, sumThenDivide
            (fun j : Fin 2048 => Scalar.select (IntOp.cmpi .eq (x0 (ix2 r 0)) (x1 (ix2 0 j)))
              (∑ e : Fin 256, k2_pay3 (F := Ideal) x2 x3 x4 (ix2 r (headCol (headOf d) e)) * x5 (ix2 j (headCol (headOf d) e)))
              (Ideal.ofBits .f32 0xF149F2CA#32))
            (fun j : Fin 2048 => x6 (ix2 j d)) * x7 (ix2 o d) := by
  have e : out2_9 (F := Ideal) x0 x1 x2 x3 x4 x5 x6 x7 x8
      = k2_pay1 (k2_pay2 x0 (View.ld x1 r2_1)) x2
          (headOut (k2_pay2 x0 (View.ld x1 r2_1)) (k2_pay3 x2 x3 x4) x5 x6 0)
          (headOut (k2_pay2 x0 (View.ld x1 r2_1)) (k2_pay3 x2 x3 x4) x5 x6 1)
          (headOut (k2_pay2 x0 (View.ld x1 r2_1)) (k2_pay3 x2 x3 x4) x5 x6 2)
          (matmul dot_S256x256_S2048x256_S256x2048_1_1_0_0_n_n none (slab (k2_pay3 x2 x3 x4) 3) (slab x5 3)
            (constant S256x2048 .f32 0x00000000#32))
          (Ideal.ofBits .f32 0xF149F2CA#32) (slab x6 3) x8 x7 := by
    have q0 := slice_slab (k2_pay3 x2 x3 x4) 0 0 rfl slices_S256x1024_o0_0_S256x256
    have q1 := slice_slab (k2_pay3 x2 x3 x4) 1 256 rfl slices_S256x1024_o0_256_S256x256
    have q2 := slice_slab (k2_pay3 x2 x3 x4) 2 512 rfl slices_S256x1024_o0_512_S256x256
    have q3 := slice_slab (k2_pay3 x2 x3 x4) 3 768 rfl slices_S256x1024_o0_768_S256x256
    have h0 : k2_pay4 x0 (View.ld x1 r2_1) x2 x3 x4 (slab x5 0) (slab x6 0)
        = headOut (k2_pay2 x0 (View.ld x1 r2_1)) (k2_pay3 x2 x3 x4) x5 x6 0 :=
      first_head _ _ _ _ _ _ _ _ q0
    have h1 : k2_pay6 (k2_pay2 x0 (View.ld x1 r2_1)) (k2_pay5 x2 x3 x4) (slab x5 1) (slab x6 1)
        = headOut (k2_pay2 x0 (View.ld x1 r2_1)) (k2_pay3 x2 x3 x4) x5 x6 1 :=
      second_head _ _ _ _ _ _ _ q1
    have h2 : k2_pay7 (k2_pay2 x0 (View.ld x1 r2_1)) (k2_pay3 x2 x3 x4) (slab x5 2) (slab x6 2)
        = headOut (k2_pay2 x0 (View.ld x1 r2_1)) (k2_pay3 x2 x3 x4) x5 x6 2 :=
      third_head _ _ _ _ _ q2
    have h3 : k2_pay8 (k2_pay3 x2 x3 x4) (slab x5 3)
        = matmul dot_S256x256_S2048x256_S256x2048_1_1_0_0_n_n none (slab (k2_pay3 x2 x3 x4) 3) (slab x5 3)
            (constant S256x2048 .f32 0x00000000#32) := by
      unfold k2_pay8; dsimp only; rw [shapeCast_self, q3]
    rw [← h0, ← h1, ← h2, ← h3, ← load_slab x5 0 0 rfl inb_S2048x1024_S2048x256_0_0,
      ← load_slab x6 0 0 rfl inb_S2048x1024_S2048x256_0_0, ← load_slab x5 1 256 rfl inb_S2048x1024_S2048x256_0_256,
      ← load_slab x6 1 256 rfl inb_S2048x1024_S2048x256_0_256, ← load_slab x5 2 512 rfl inb_S2048x1024_S2048x256_0_512,
      ← load_slab x6 2 512 rfl inb_S2048x1024_S2048x256_0_512, ← load_slab x5 3 768 rfl inb_S2048x1024_S2048x256_0_768,
      ← load_slab x6 3 768 rfl inb_S2048x1024_S2048x256_0_768]
    unfold_out out2_9
    simp (disch := decide) only [View.ld_unit_lit', View.canon_cons_unit_lit']
    rfl
  rw [e, out_eq]
  refine congrArg _ (Finset.sum_congr rfl fun d _ => congrArg (· * x7 (ix2 o d)) ?_)
  refine (head_apply _ _ _ _ r (headLane d)).trans ?_
  refine congrArg₂ sumThenDivide (funext fun j => ?_) (funext fun j => ?_)
  · refine congrArg (fun b => Scalar.select b _ _) ?_
    exact (mask_apply x0 _ r j).trans (congrArg (IntOp.cmpi .eq (x0 (ix2 r 0))) (load_row x1 j))
  · exact congrArg x6 (congrArg (ix2 j) (headCol_headOf d))

end Cert.KernelIdeal.Hand

end
-- ==== Proof.Out.lean ====
/- Hand-written, untrusted: THE ARRAY AFTER THE THIRD LAUNCH: its eight points attend for 256 queries each, over all keys and values, and
   their blocks make up the whole result. -/
module

public import proofs.«01_k».proof.Proof.Attn
public import Idealize.ShloMosaic.Lib.Pipeline.ValueKit

@[expose] public section

set_option maxRecDepth 16384

noncomputable section

namespace Cert.KernelIdeal.Hand

open Cert.KernelIdeal Cert.KernelIdeal.Gen Cert.Proof.Math
open Idealize.ShloMosaic hiding ix1 ix2 ix3
open Idealize.ShloMosaic.ValueIdx Idealize.ShloMosaic.TcCoe
open scoped BigOperators

variable (V : (c : Dev nD) → (b : Ref sig .tc) → Buf (Elt Ideal) ((c : Thread nD τ).loc b)) (c : Dev nD)

/-- A query row's scaled projection, at column `d`. -/
def scaledQuery (x : FVec Ideal S2048x1024 .f32) (w : FVec Ideal S1024x1024 .f32) (b : FVec Ideal S1x1024 .f32)
    (n : Fin 2048) (d : Fin 1024) : EReal :=
  (∑ h : Fin 1024, x (ix2 n h) * w (ix2 d h) + b (ix2 0 d)) * Ideal.ofBits .f32 0x3D800000#32

/-- The result of the attention launch, from the arrays it finds. -/
def attended (gc : IVec S2048x128 32) (gr : IVec S8x2048 32) (x : FVec Ideal S2048x1024 .f32) (wq : FVec Ideal S1024x1024 .f32)
    (bq : FVec Ideal S1x1024 .f32) (k v : FVec Ideal S2048x1024 .f32) (wo : FVec Ideal S1024x1024 .f32) (bo : FVec Ideal S1x1024 .f32) :
    FVec Ideal S2048x1024 .f32 :=
  fun i => (x (ix2 (i 0) (i 1)) + bo (ix2 0 (i 1)))
    + ∑ d : Fin 1024, sumThenDivide
        (fun j : Fin 2048 => Scalar.select (IntOp.cmpi .eq (gc (ix2 (i 0) 0)) (gr (ix2 0 j)))
          (∑ e : Fin 256, scaledQuery x wq bq (i 0) (headCol (headOf d) e) * k (ix2 j (headCol (headOf d) e)))
          (Ideal.ofBits .f32 0xF149F2CA#32))
        (fun j : Fin 2048 => v (ix2 j d)) * wo (ix2 (i 1) d)

/-! ## The input blocks -/

/-- Window 1 starts at the first row and column, at every point. -/
theorem at2_1 : ∀ t : Fin cfg2.N, win2_1.index t = ![0, 0] := (by decide +kernel : ∀ t : Fin grid2.N, _)

/-- Window 1 brings in the group numbers laid along rows, whole. -/
theorem blk2_1 (t : Fin cfg2.N) : iblk2 V c 1 t = V c main_v16 := by
  funext y
  blk_simp [iblk2]
  refine congrArg (V c main_v16) ?_
  blk_ext [at2_1]

/-- Window 3 starts at the first row and column, at every point. -/
theorem at2_3 : ∀ t : Fin cfg2.N, win2_3.index t = ![0, 0] := (by decide +kernel : ∀ t : Fin grid2.N, _)

/-- Window 3 brings in the queries' input weights, whole. -/
theorem blk2_3 (t : Fin cfg2.N) : iblk2 V c 3 t = V c main_v0 := by
  funext y
  blk_simp [iblk2]
  refine congrArg (V c main_v0) ?_
  blk_ext [at2_3]

/-- Window 4 starts at the first row and column, at every point. -/
theorem at2_4 : ∀ t : Fin cfg2.N, win2_4.index t = ![0, 0] := (by decide +kernel : ∀ t : Fin grid2.N, _)

/-- Window 4 brings in the queries' input offsets, whole. -/
theorem blk2_4 (t : Fin cfg2.N) : iblk2 V c 4 t = V c main_v4 := by
  funext y
  blk_simp [iblk2]
  refine congrArg (V c main_v4) ?_
  blk_ext [at2_4]

/-- Window 5 starts at the first row and column, at every point. -/
theorem at2_5 : ∀ t : Fin cfg2.N, win2_5.index t = ![0, 0] := (by decide +kernel : ∀ t : Fin grid2.N, _)

/-- Window 5 brings in the keys, whole. -/
theorem blk2_5 (t : Fin cfg2.N) : iblk2 V c 5 t = V c main_v12_0 := by
  funext y
  blk_simp [iblk2]
  refine congrArg (V c main_v12_0) ?_
  blk_ext [at2_5]

/-- Window 6 starts at the first row and column, at every point. -/
theorem at2_6 : ∀ t : Fin cfg2.N, win2_6.index t = ![0, 0] := (by decide +kernel : ∀ t : Fin grid2.N, _)

/-- Window 6 brings in the values, whole. -/
theorem blk2_6 (t : Fin cfg2.N) : iblk2 V c 6 t = V c main_v12_1 := by
  funext y
  blk_simp [iblk2]
  refine congrArg (V c main_v12_1) ?_
  blk_ext [at2_6]

/-- Window 7 starts at the first row and column, at every point. -/
theorem at2_7 : ∀ t : Fin cfg2.N, win2_7.index t = ![0, 0] := (by decide +kernel : ∀ t : Fin grid2.N, _)

/-- Window 7 brings in the output weights, whole. -/
theorem blk2_7 (t : Fin cfg2.N) : iblk2 V c 7 t = V c main_arg8 := by
  funext y
  blk_simp [iblk2]
  refine congrArg (V c main_arg8) ?_
  blk_ext [at2_7]

/-- Window 8 starts at the first row and column, at every point. -/
theorem at2_8 : ∀ t : Fin cfg2.N, win2_8.index t = ![0, 0] := (by decide +kernel : ∀ t : Fin grid2.N, _)

/-- Window 8 brings in the output offsets, whole. -/
theorem blk2_8 (t : Fin cfg2.N) : iblk2 V c 8 t = V c main_v10 := by
  funext y
  blk_simp [iblk2]
  refine congrArg (V c main_v10) ?_
  blk_ext [at2_8]

/-- Window 0 moves down by one block a point. -/
theorem at2_0 : ∀ t : Fin cfg2.N, win2_0.index t = ![(grid2.coords t 0).val, 0] := (by decide +kernel : ∀ t : Fin grid2.N, _)

/-- Row of window 0's block in its array: 256 rows a point. -/
theorem row2_0 (t : Fin cfg2.N) (y) : (((win2_0.blk t).view.emb y) 0).val = (grid2.coords t 0).val * 256 + (y 0).val := by
  blk_simp [at2_0]

/-- Column of window 0's block in its array: the same. -/
theorem col2_0 (t : Fin cfg2.N) (y) : (((win2_0.blk t).view.emb y) 1).val = (y 1).val := by
  blk_simp [at2_0]

/-- Window 2 moves down by one block a point. -/
theorem at2_2 : ∀ t : Fin cfg2.N, win2_2.index t = ![(grid2.coords t 0).val, 0] := (by decide +kernel : ∀ t : Fin grid2.N, _)

/-- Row of window 2's block in its array: 256 rows a point. -/
theorem row2_2 (t : Fin cfg2.N) (y) : (((win2_2.blk t).view.emb y) 0).val = (grid2.coords t 0).val * 256 + (y 0).val := by
  blk_simp [at2_2]

/-- Column of window 2's block in its array: the same. -/
theorem col2_2 (t : Fin cfg2.N) (y) : (((win2_2.blk t).view.emb y) 1).val = (y 1).val := by
  blk_simp [at2_2]

/-- Window 9 moves down by one block a point. -/
theorem at2_9 : ∀ t : Fin cfg2.N, win2_9.index t = ![(grid2.coords t 0).val, 0] := (by decide +kernel : ∀ t : Fin grid2.N, _)

/-- Row of window 9's block in its array: 256 rows a point. -/
theorem row2_9 (t : Fin cfg2.N) (y) : (((win2_9.blk t).view.emb y) 0).val = (grid2.coords t 0).val * 256 + (y 0).val := by
  blk_simp [at2_9]

/-- Column of window 9's block in its array: the same. -/
theorem col2_9 (t : Fin cfg2.N) (y) : (((win2_9.blk t).view.emb y) 1).val = (y 1).val := by
  blk_simp [at2_9]

/-! ## The result -/

/-- The result: every point writes its 256 rows of `attended`. -/
theorem arr2_9 : (dat2 V c).arrAt 9 cfg2.N = attended (V c main_v14) (V c main_v16) (V c main_arg0) (V c main_v0) (V c main_v4)
    (V c main_v12_0) (V c main_v12_1) (V c main_arg8) (V c main_v10) := by
  refine (dat2 V c).arrAt_eq_of_covers 9 _ (by decide +kernel) fun t hf y => ?_
  blk_simp
  rw [after2_9, blk2_1, blk2_3, blk2_4, blk2_5, blk2_6, blk2_7, blk2_8]
  obtain ⟨r, o, rfl⟩ : ∃ (r : Fin 256) (o : Fin 1024), y = ix2 r o := ⟨y 0, y 1, ValueIdx.eq_ix2 y⟩
  refine (attn_block_apply _ _ _ _ _ _ _ _ _ r o).trans ?_
  have e1 : ((win2_9.blk t).view.emb (ix2 r o)) 1 = o := by
    exact Fin.ext (col2_9 t _)
  have hx : ∀ h : Fin 1024, iblk2 V c 2 t (ix2 r h) = V c main_arg0 (ix2 (((win2_9.blk t).view.emb (ix2 r o)) 0) h) := fun h => by
    blk_simp [iblk2]
    refine congrArg (V c main_arg0) ?_
    exact ext2 ((row2_2 t _).trans (row2_9 t (ix2 r o)).symm) (col2_2 t _)
  have hg : iblk2 V c 0 t (ix2 r 0) = V c main_v14 (ix2 (((win2_9.blk t).view.emb (ix2 r o)) 0) 0) := by
    blk_simp [iblk2]
    refine congrArg (V c main_v14) ?_
    exact ext2 ((row2_0 t _).trans (row2_9 t (ix2 r o)).symm) (col2_0 t _)
  have hq : ∀ d : Fin 1024, k2_pay3 (F := Ideal) (iblk2 V c 2 t) (V c main_v0) (V c main_v4) (ix2 r d)
      = scaledQuery (V c main_arg0) (V c main_v0) (V c main_v4) (((win2_9.blk t).view.emb (ix2 r o)) 0) d := fun d => by
    refine (query_apply _ _ _ r d).trans ?_
    exact congrArg (fun s => (s + V c main_v4 (ix2 0 d)) * Ideal.ofBits .f32 0x3D800000#32)
      (Finset.sum_congr rfl fun h _ => congrArg (· * V c main_v0 (ix2 d h)) (hx h))
  unfold attended
  refine congrArg₂ (· + ·) (congrArg₂ (· + ·) ?_ ?_) (Finset.sum_congr rfl fun d _ => congrArg₂ (· * ·)
    (congrArg (fun s => sumThenDivide s _) (funext fun j => ?_)) ?_)
  · exact (hx o).trans (congrArg (fun o => V c main_arg0 (ix2 _ o)) e1.symm)
  · exact congrArg (fun o => V c main_v10 (ix2 0 o)) e1.symm
  · exact congrArg₂ (fun b s => Scalar.select b s _) (congrArg (fun g => IntOp.cmpi .eq g _) hg)
      (Finset.sum_congr rfl fun e _ => congrArg (· * _) (hq _))
  · exact congrArg (fun o => V c main_arg8 (ix2 o d)) e1.symm

end Cert.KernelIdeal.Hand

end
-- ==== Proof.Host.lean ====
/- Hand-written, untrusted: WHAT THE HOST HANDS THE LAUNCHES. Before the first launch the host cuts the stacked weights and offsets
   into the queries', the keys' and the values' parts and lays the offsets out as rows; before the third it repeats the group
   numbers down columns and along rows. -/
module

public import proofs.«01_k».proof.Proof.Gen.KernelIdeal.Frame
public import proofs.«01_k».proof.Proof.Places
public import Idealize.ShloMosaic.Lib.Pipeline.Value

@[expose] public section

set_option maxRecDepth 16384

noncomputable section

namespace Cert.KernelIdeal.Hand

open Cert.KernelIdeal Cert.KernelIdeal.Gen Cert.Proof.Math
open Idealize.ShloMosaic
open Idealize.ShloMosaic.ValueIdx Idealize.ShloMosaic.TcCoe
open Idealize.ShloMosaic.StableHlo

/-- Part `s` of the stacked weights. -/
def wPart (x : FVec Ideal S3072x1024 .f32) (s : Fin 3) : FVec Ideal S1024x1024 .f32 := fun i => x (ix2 (inRow s (i 0)) (i 1))

/-- Part `s` of the stacked offsets, as a row. -/
def bPart (x : FVec Ideal S3072 .f32) (s : Fin 3) : FVec Ideal S1x1024 .f32 := fun i => x (ix1 (inRow s (i 1)))

/-- A vector as a row. -/
def asRow (x : FVec Ideal S1024 .f32) : FVec Ideal S1x1024 .f32 := fun i => x (ix1 (i 1))

/-! ## The operations -/

/-- Cutting 1024 rows of the stacked weights gives one of their parts. -/
theorem slice_w (x : FVec Ideal S3072x1024 .f32) (s : Fin 3) (h : S3072x1024.Slices ![1024 * s.val, 0] S1024x1024) :
    extractStridedSlice S1024x1024 ![1024 * s.val, 0] x h = wPart x s :=
  funext fun i => extractStridedSlice_apply _ x h i (ix2 (inRow s (i 0)) (i 1)) fun a => match a with
    | ⟨0, _⟩ => rfl
    | ⟨1, _⟩ => (Nat.zero_add _).symm

/-- A vector reshaped to one row is that vector as a row. -/
theorem row_cast (x : FVec Ideal S1024 .f32) (h : S1024.ShapeCasts S1x1024) : shapeCast S1x1024 x h = asRow x :=
  funext fun i => shapeCast_apply x h i (ix1 (i 1)) (by
    have h0 : (i 0).val = 0 := Nat.lt_one_iff.mp (i 0).isLt
    rw [Shape.rowMajor_val_one, Shape.rowMajor_val_two]
    show (i 1).val = (i 0).val * 1024 + (i 1).val
    omega)

/-- Cutting 1024 entries of the stacked offsets and reshaping them gives one of their parts as a row. -/
theorem slice_b (x : FVec Ideal S3072 .f32) (s : Fin 3) (h : S3072.Slices ![1024 * s.val] S1024) (h' : S1024.ShapeCasts S1x1024) :
    shapeCast S1x1024 (extractStridedSlice S1024 ![1024 * s.val] x h) h' = bPart x s := by
  rw [row_cast]
  exact funext fun i => extractStridedSlice_apply _ x h (ix1 (i 1)) (ix1 (inRow s (i 1))) fun a => match a with
    | ⟨0, _⟩ => rfl

/-- The group numbers repeated down columns: every column holds them. -/
theorem group_col (x : IVec S2048 32) (n : Fin 2048) (h : S2048.BroadcastsInDim S2048x1 ![0])
    (h' : S2048x1.BroadcastsInDim S2048x128 ![0, 1]) (z : Fin 128) :
    broadcastInDim S2048x128 ![0, 1] h' (broadcastInDim S2048x1 ![0] h x) (ix2 n z) = x (ix1 n) :=
  (broadcastInDim_apply _ h' _ (ix2 n z) (ix2 n 0) fun a => match a with
    | ⟨0, _⟩ => rfl
    | ⟨1, _⟩ => rfl).trans (broadcastInDim_apply _ h x (ix2 n 0) (ix1 n) fun a => match a with
    | ⟨0, _⟩ => rfl)

/-- The group numbers repeated along rows: every row holds them. -/
theorem group_row (x : IVec S2048 32) (n : Fin 2048) (h : S2048.BroadcastsInDim S1x2048 ![1])
    (h' : S1x2048.BroadcastsInDim S8x2048 ![0, 1]) (z : Fin 8) :
    broadcastInDim S8x2048 ![0, 1] h' (broadcastInDim S1x2048 ![1] h x) (ix2 z n) = x (ix1 n) :=
  (broadcastInDim_apply _ h' _ (ix2 z n) (ix2 0 n) fun a => match a with
    | ⟨0, _⟩ => rfl
    | ⟨1, _⟩ => rfl).trans (broadcastInDim_apply _ h x (ix2 0 n) (ix1 n) fun a => match a with
    | ⟨0, _⟩ => rfl)

/-! ## The two stretches -/

variable (V : Valuation τ sig (Elt Ideal))

/-- The queries' input weights. -/
theorem host_v0 : after hostOps0 V (main_v0 : DevRef τ sig) = wPart (V (main_arg6 : DevRef τ sig)) 0 := by
  after_results
  exact slice_w _ 0 _

/-- The keys' input weights. -/
theorem host_v1 : after hostOps0 V (main_v1 : DevRef τ sig) = wPart (V (main_arg6 : DevRef τ sig)) 1 := by
  after_results
  exact slice_w _ 1 _

/-- The values' input weights. -/
theorem host_v2 : after hostOps0 V (main_v2 : DevRef τ sig) = wPart (V (main_arg6 : DevRef τ sig)) 2 := by
  after_results
  exact slice_w _ 2 _

/-- The queries' input offsets. -/
theorem host_v4 : after hostOps0 V (main_v4 : DevRef τ sig) = bPart (V (main_arg7 : DevRef τ sig)) 0 := by
  after_results
  exact slice_b _ 0 _ _

/-- The keys' input offsets. -/
theorem host_v6 : after hostOps0 V (main_v6 : DevRef τ sig) = bPart (V (main_arg7 : DevRef τ sig)) 1 := by
  after_results
  exact slice_b _ 1 _ _

/-- The values' input offsets. -/
theorem host_v8 : after hostOps0 V (main_v8 : DevRef τ sig) = bPart (V (main_arg7 : DevRef τ sig)) 2 := by
  after_results
  exact slice_b _ 2 _ _

/-- The edge offsets as a row. -/
theorem host_v9 : after hostOps0 V (main_v9 : DevRef τ sig) = asRow (V (main_arg5 : DevRef τ sig)) := by
  after_results
  exact row_cast _ _

/-- The output offsets as a row. -/
theorem host_v10 : after hostOps0 V (main_v10 : DevRef τ sig) = asRow (V (main_arg9 : DevRef τ sig)) := by
  after_results
  exact row_cast _ _

/-- The group numbers down columns. -/
theorem host_v14 : after hostOps2 V (main_v14 : DevRef τ sig) = broadcastInDim S2048x128 ![0, 1] bcast_S2048x1_S2048x128_0_1
    (broadcastInDim S2048x1 ![0] bcast_S2048_S2048x1_0 (V (main_arg3 : DevRef τ sig) : IVec S2048 32)) := by
  after_results

/-- The group numbers along rows. -/
theorem host_v16 : after hostOps2 V (main_v16 : DevRef τ sig) = broadcastInDim S8x2048 ![0, 1] bcast_S1x2048_S8x2048_0_1
    (broadcastInDim S1x2048 ![1] bcast_S2048_S1x2048_1 (V (main_arg3 : DevRef τ sig) : IVec S2048 32)) := by
  after_results

end Cert.KernelIdeal.Hand

end
-- ==== Proof.KValue.lean ====
/- Hand-written, untrusted: THE KERNEL'S RESULT AS A FUNCTION OF ITS ARGUMENTS: the three launches' arrays and the host's stretches
   between them, put together. -/
module

public import proofs.«01_k».proof.Proof.Fold
public import proofs.«01_k».proof.Proof.Proj
public import proofs.«01_k».proof.Proof.Out
public import proofs.«01_k».proof.Proof.Host

@[expose] public section

set_option maxRecDepth 16384

noncomputable section

namespace Cert.KernelIdeal.Hand

open Cert.KernelIdeal Cert.KernelIdeal.Gen Cert.Proof.Math
open Idealize.ShloMosaic hiding ix1 ix2 ix3
open Idealize.ShloMosaic.ValueIdx Idealize.ShloMosaic.TcCoe
open scoped BigOperators

/-- The keys (part 1) or the values (part 2) that the first two launches leave. -/
def foldedRows (x : FVec Ideal S2048x256 .f32) (x4 : FVec Ideal S1024x256 .f32) (x5 : FVec Ideal S1024 .f32)
    (x6 : FVec Ideal S3072x1024 .f32) (x7 : FVec Ideal S3072 .f32) (s : Fin 3) : FVec Ideal S2048x1024 .f32 :=
  projected x (k0_pay3 x4 (wPart x6 s)) (k0_pay5 (F := Ideal) (wPart x6 s) (asRow x5) (bPart x7 s))

/-- The kernel's result. -/
def result (x0 : FVec Ideal S2048x1024 .f32) (x1 x2 : FVec Ideal S2048x256 .f32) (x3 : IVec S2048 32)
    (x4 : FVec Ideal S1024x256 .f32) (x5 : FVec Ideal S1024 .f32) (x6 : FVec Ideal S3072x1024 .f32) (x7 : FVec Ideal S3072 .f32)
    (x8 : FVec Ideal S1024x1024 .f32) (x9 : FVec Ideal S1024 .f32) : FVec Ideal S2048x1024 .f32 :=
  attended
    (broadcastInDim S2048x128 ![0, 1] bcast_S2048x1_S2048x128_0_1 (broadcastInDim S2048x1 ![0] bcast_S2048_S2048x1_0 x3))
    (broadcastInDim S8x2048 ![0, 1] bcast_S1x2048_S8x2048_0_1 (broadcastInDim S1x2048 ![1] bcast_S2048_S1x2048_1 x3))
    x0 (wPart x6 0) (bPart x7 0) (foldedRows x1 x4 x5 x6 x7 1) (foldedRows x2 x4 x5 x6 x7 2) x8 (asRow x9)

/-! ## The boundaries -/

variable (m : (ℓ : Loc nD τ sig) → Buf (Elt Ideal) ℓ) (ρ : Dev nD → PrngReg) (c : Dev nD)

/-- The first launch's arrays, at its exit. -/
theorem V2_fold :
    V2 m ρ c main_v11_0 = k0_pay3 (F := Ideal) (m ((c : Thread nD τ).loc main_arg4)) (wPart (m ((c : Thread nD τ).loc main_arg6)) 1)
    ∧ V2 m ρ c main_v11_1 = k0_pay3 (F := Ideal) (m ((c : Thread nD τ).loc main_arg4)) (wPart (m ((c : Thread nD τ).loc main_arg6)) 2)
    ∧ V2 m ρ c main_v11_2 = k0_pay5 (F := Ideal) (wPart (m ((c : Thread nD τ).loc main_arg6)) 1) (asRow (m ((c : Thread nD τ).loc main_arg5)))
        (bPart (m ((c : Thread nD τ).loc main_arg7)) 1)
    ∧ V2 m ρ c main_v11_3 = k0_pay5 (F := Ideal) (wPart (m ((c : Thread nD τ).loc main_arg6)) 2) (asRow (m ((c : Thread nD τ).loc main_arg5)))
        (bPart (m ((c : Thread nD τ).loc main_arg7)) 2) := by
  have a4 : V1 m ρ c main_arg4 = m ((c : Thread nD τ).loc main_arg4) := W1_args m ρ c main_arg4 (by decide)
  have h1 : V1 m ρ c main_v1 = wPart (m ((c : Thread nD τ).loc main_arg6)) 1 := host_v1 (W0 m ρ c)
  have h2 : V1 m ρ c main_v2 = wPart (m ((c : Thread nD τ).loc main_arg6)) 2 := host_v2 (W0 m ρ c)
  have h6 : V1 m ρ c main_v6 = bPart (m ((c : Thread nD τ).loc main_arg7)) 1 := host_v6 (W0 m ρ c)
  have h8 : V1 m ρ c main_v8 = bPart (m ((c : Thread nD τ).loc main_arg7)) 2 := host_v8 (W0 m ρ c)
  have h9 : V1 m ρ c main_v9 = asRow (m ((c : Thread nD τ).loc main_arg5)) := host_v9 (W0 m ρ c)
  refine ⟨(W2_arr m ρ c 6).trans ((arr0_6 (V1 m ρ) c).trans ?_), (W2_arr m ρ c 7).trans ((arr0_7 (V1 m ρ) c).trans ?_),
    (W2_arr m ρ c 8).trans ((arr0_8 (V1 m ρ) c).trans ?_), (W2_arr m ρ c 9).trans ((arr0_9 (V1 m ρ) c).trans ?_)⟩
  · rw [a4, h1]
  · rw [a4, h2, fold_same]
  · rw [h1, h9, h6]
  · rw [h2, h9, h8, offset_same]

/-- The second launch's arrays, at its exit. -/
theorem V3_rows :
    V3 m ρ c main_v12_0 = foldedRows (m ((c : Thread nD τ).loc main_arg1)) (m ((c : Thread nD τ).loc main_arg4))
        (m ((c : Thread nD τ).loc main_arg5)) (m ((c : Thread nD τ).loc main_arg6)) (m ((c : Thread nD τ).loc main_arg7)) 1
    ∧ V3 m ρ c main_v12_1 = foldedRows (m ((c : Thread nD τ).loc main_arg2)) (m ((c : Thread nD τ).loc main_arg4))
        (m ((c : Thread nD τ).loc main_arg5)) (m ((c : Thread nD τ).loc main_arg6)) (m ((c : Thread nD τ).loc main_arg7)) 2 := by
  obtain ⟨h0, h1, h2, h3⟩ := V2_fold m ρ c
  have a1 : V2 m ρ c main_arg1 = m ((c : Thread nD τ).loc main_arg1) := W2_args m ρ c main_arg1 (by decide)
  have a2 : V2 m ρ c main_arg2 = m ((c : Thread nD τ).loc main_arg2) := W2_args m ρ c main_arg2 (by decide)
  refine ⟨(W3_arr m ρ c 6).trans ((arr1_6 (V2 m ρ) c).trans ?_), (W3_arr m ρ c 7).trans ((arr1_7 (V2 m ρ) c).trans ?_)⟩
  · rw [h0, h2, a1]; rfl
  · rw [h1, h3, a2]; rfl

/-- A part that the host cut before the first launch is untouched until the third. -/
theorem V4_keep (r : Ref sig .tc) (h2 : r ∉ hostOps2_W) (h1 : ∀ w : Fin cfg1.W, Pipeline.arrRef spec1 w = r → (cfg1.win w).isOut = false)
    (h0 : ∀ w : Fin cfg0.W, Pipeline.arrRef spec0 w = r → (cfg0.win w).isOut = false) : V4 m ρ c r = V1 m ρ c r :=
  (W4_of m ρ c r h2).trans ((W3_of m ρ c r h1).trans (W2_of m ρ c r h0))

/-- **The kernel's result array** is `result` of the arguments. -/
theorem kernel_value : (dat2 (V4 m ρ) c).arrAt 9 cfg2.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  have a0 : V4 m ρ c main_arg0 = m ((c : Thread nD τ).loc main_arg0) := W4_args m ρ c main_arg0 (by decide)
  have a3 : W3 m ρ c (Proc.devRef .tc main_arg3) = m ((c : Thread nD τ).loc main_arg3) := W3_args m ρ c main_arg3 (by decide)
  have a8 : V4 m ρ c main_arg8 = m ((c : Thread nD τ).loc main_arg8) := W4_args m ρ c main_arg8 (by decide)
  have g14 := host_v14 (W3 m ρ c)
  have g16 := host_v16 (W3 m ρ c)
  rw [a3] at g14 g16
  have k0 : V4 m ρ c main_v0 = wPart (m ((c : Thread nD τ).loc main_arg6)) 0 :=
    (V4_keep m ρ c main_v0 (by decide) (by decide) (by decide)).trans (host_v0 (W0 m ρ c))
  have k4 : V4 m ρ c main_v4 = bPart (m ((c : Thread nD τ).loc main_arg7)) 0 :=
    (V4_keep m ρ c main_v4 (by decide) (by decide) (by decide)).trans (host_v4 (W0 m ρ c))
  have k10 : V4 m ρ c main_v10 = asRow (m ((c : Thread nD τ).loc main_arg9)) :=
    (V4_keep m ρ c main_v10 (by decide) (by decide) (by decide)).trans (host_v10 (W0 m ρ c))
  have kk := (W4_of m ρ c main_v12_0 (by decide)).trans (V3_rows m ρ c).1
  have kv := (W4_of m ρ c main_v12_1 (by decide)).trans (V3_rows m ρ c).2
  refine (arr2_9 (V4 m ρ) c).trans ?_
  unfold result
  rw [← g14, ← g16, ← a0, ← a8, ← k0, ← k4, ← k10, ← kk, ← kv]

/-! ## Entries -/

/-- A folded key or value, entry by entry. -/
theorem foldedRows_apply (x : FVec Ideal S2048x256 .f32) (x4 : FVec Ideal S1024x256 .f32) (x5 : FVec Ideal S1024 .f32)
    (x6 : FVec Ideal S3072x1024 .f32) (x7 : FVec Ideal S3072 .f32) (s : Fin 3) (n : Fin 2048) (d : Fin 1024) :
    foldedRows x x4 x5 x6 x7 s (ix2 n d)
      = foldedEntry (fun e : Fin 256 => x (ix2 n e)) (fun (h : Fin 1024) (e : Fin 256) => x4 (ix2 h e)) (fun h => x5 (ix1 h))
          (fun h => x6 (ix2 (inRow s d) h)) (x7 (ix1 (inRow s d))) :=
  congrArg₂ (· + ·)
    (Finset.sum_congr rfl fun e _ => congrArg (x (ix2 n e) * ·) (fold_apply x4 (wPart x6 s) d e))
    (offset_apply (wPart x6 s) (asRow x5) (bPart x7 s) d)

end Cert.KernelIdeal.Hand

end
-- ==== Proof.Ref.lean ====
/- Hand-written, untrusted: WHAT THE REFERENCE COMPUTES, entry by entry, over the extended reals: its projections in two steps, its
   scores divided by sixteen, each weight of a row divided by the row's sum before the values are weighed. -/
module

public import proofs.«01_k».proof.Proof.Gen.ReferenceIdeal.Read
public import proofs.«01_k».proof.Proof.Math
public import proofs.«01_k».proof.Proof.Places
public import Idealize.ShloMosaic.Lib.KernelVsHost

@[expose] public section

set_option maxRecDepth 16384

noncomputable section

namespace Cert.ReferenceIdeal.Hand

open Cert.ReferenceIdeal Cert.ReferenceIdeal.Gen Cert.ReferenceIdeal.Read Cert.Proof.Math
open Idealize.ShloMosaic Idealize.ShloMosaic.ValueIdx
open scoped BigOperators

variable (x0 : FVec Ideal S2048x1024 .f32) (x1 x2 : FVec Ideal S2048x256 .f32) (x3 : IVec S2048 32)
  (x4 : FVec Ideal S1024x256 .f32) (x5 : FVec Ideal S1024 .f32) (x6 : FVec Ideal S3072x1024 .f32) (x7 : FVec Ideal S3072 .f32)
  (x8 : FVec Ideal S1024x1024 .f32) (x9 : FVec Ideal S1024 .f32)

/-! ## The projections -/

/-- The keys through the edge weights. -/
theorem edge_key (n : Fin 2048) (h : Fin 1024) : val_main_v4 (F := Ideal) x1 x4 x5 (ix2 n h)
    = ∑ e : Fin 256, x1 (ix2 n e) * x4 (ix2 h e) + x5 (ix1 h) := by
  rw [val_main_v4_apply, val_main_v1_apply, val_main_v3_apply, val_main_v2_apply]
  refine congrArg₂ (· + ·) (Finset.sum_congr rfl fun e _ => ?_) (congrArg x5 (ext1 rfl))
  rw [val_main_v0_apply]
  exact congrArg₂ (· * ·) (congrArg x1 (ext2 rfl rfl)) (congrArg x4 (ext2 rfl rfl))

/-- The values through the edge weights. -/
theorem edge_value (n : Fin 2048) (h : Fin 1024) : val_main_v9 (F := Ideal) x2 x4 x5 (ix2 n h)
    = ∑ e : Fin 256, x2 (ix2 n e) * x4 (ix2 h e) + x5 (ix1 h) := by
  rw [val_main_v9_apply, val_main_v6_apply, val_main_v8_apply, val_main_v7_apply]
  refine congrArg₂ (· + ·) (Finset.sum_congr rfl fun e _ => ?_) (congrArg x5 (ext1 rfl))
  rw [val_main_v5_apply]
  exact congrArg₂ (· * ·) (congrArg x2 (ext2 rfl rfl)) (congrArg x4 (ext2 rfl rfl))

/-- The projected query of row `n` at column `d`. -/
def queryEntry (n : Fin 2048) (d : Fin 1024) : EReal :=
  ∑ h : Fin 1024, x0 (ix2 n h) * x6 (ix2 (inRow 0 d) h) + x7 (ix1 (inRow 0 d))

/-- The twice projected key or value (part `s` of the input weights) of row `n` at column `d`. -/
def rowEntry (x : FVec Ideal S2048x256 .f32) (s : Fin 3) (n : Fin 2048) (d : Fin 1024) : EReal :=
  twoStepEntry (fun e : Fin 256 => x (ix2 n e)) (fun (h : Fin 1024) (e : Fin 256) => x4 (ix2 h e)) (fun h => x5 (ix1 h))
    (fun h => x6 (ix2 (inRow s d) h)) (x7 (ix1 (inRow s d)))

/-- The projected queries. -/
theorem query_apply (n : Fin 2048) (d : Fin 1024) : val_main_v25 (F := Ideal) x0 x6 x7 (ix2 n d) = queryEntry x0 x6 x7 n d := by
  rw [val_main_v25_apply, val_main_v22_apply, val_main_v24_apply, val_main_v23_apply, val_main_v18_apply]
  refine congrArg₂ (· + ·) (Finset.sum_congr rfl fun h _ => ?_) (congrArg x7 (ext1 (Nat.zero_add _).symm))
  rw [val_main_v21_apply, val_main_v15_apply]
  exact congrArg₂ (· * ·) (congrArg x0 (ext2 rfl rfl)) (congrArg x6 (ext2 (Nat.zero_add _).symm rfl))

/-- The keys, projected twice. -/
theorem key_apply (n : Fin 2048) (d : Fin 1024) :
    val_main_v32 (F := Ideal) x1 x4 x5 x6 x7 (ix2 n d) = rowEntry x4 x5 x6 x7 x1 1 n d := by
  rw [val_main_v32_apply, val_main_v29_apply, val_main_v31_apply, val_main_v30_apply, val_main_v19_apply]
  refine congrArg₂ (· + ·) (Finset.sum_congr rfl fun h _ => ?_) (congrArg x7 (ext1 rfl))
  rw [val_main_v28_apply, val_main_v16_apply]
  exact congrArg₂ (· * ·) ((congrArg (val_main_v4 (F := Ideal) x1 x4 x5) (ext2 rfl rfl)).trans (edge_key x1 x4 x5 n h))
    (congrArg x6 (ext2 rfl rfl))

/-- The values, projected twice. -/
theorem value_apply (n : Fin 2048) (d : Fin 1024) :
    val_main_v39 (F := Ideal) x2 x4 x5 x6 x7 (ix2 n d) = rowEntry x4 x5 x6 x7 x2 2 n d := by
  rw [val_main_v39_apply, val_main_v36_apply, val_main_v38_apply, val_main_v37_apply, val_main_v20_apply]
  refine congrArg₂ (· + ·) (Finset.sum_congr rfl fun h _ => ?_) (congrArg x7 (ext1 rfl))
  rw [val_main_v35_apply, val_main_v17_apply]
  exact congrArg₂ (· * ·) ((congrArg (val_main_v9 (F := Ideal) x2 x4 x5) (ext2 rfl rfl)).trans (edge_value x2 x4 x5 n h))
    (congrArg x6 (ext2 rfl rfl))

/-! ## The heads -/

/-- The queries, head by head: head `g`'s column `e`. -/
theorem query_head (g : Fin 4) (n : Fin 2048) (e : Fin 256) :
    val_main_v27 (F := Ideal) x0 x6 x7 (ix3 g n e) = queryEntry x0 x6 x7 n (headCol g e) := by
  rw [val_main_v27_apply, val_main_v26_apply, ← query_apply]
  have hg := g.isLt; have he := e.isLt
  refine congrArg _ (ext2 ?_ ?_)
  · show ((n.val * 4 + g.val) * 256 + e.val) / 1024 = n.val; omega
  · show ((n.val * 4 + g.val) * 256 + e.val) % 1024 = 256 * g.val + e.val; omega

/-- The keys, head by head. -/
theorem key_head (g : Fin 4) (n : Fin 2048) (e : Fin 256) :
    val_main_v34 (F := Ideal) x1 x4 x5 x6 x7 (ix3 g n e) = rowEntry x4 x5 x6 x7 x1 1 n (headCol g e) := by
  rw [val_main_v34_apply, val_main_v33_apply, ← key_apply]
  have hg := g.isLt; have he := e.isLt
  refine congrArg _ (ext2 ?_ ?_)
  · show ((n.val * 4 + g.val) * 256 + e.val) / 1024 = n.val; omega
  · show ((n.val * 4 + g.val) * 256 + e.val) % 1024 = 256 * g.val + e.val; omega

/-- The values, head by head. -/
theorem value_head (g : Fin 4) (n : Fin 2048) (e : Fin 256) :
    val_main_v41 (F := Ideal) x2 x4 x5 x6 x7 (ix3 g n e) = rowEntry x4 x5 x6 x7 x2 2 n (headCol g e) := by
  rw [val_main_v41_apply, val_main_v40_apply, ← value_apply]
  have hg := g.isLt; have he := e.isLt
  refine congrArg _ (ext2 ?_ ?_)
  · show ((n.val * 4 + g.val) * 256 + e.val) / 1024 = n.val; omega
  · show ((n.val * 4 + g.val) * 256 + e.val) % 1024 = 256 * g.val + e.val; omega

/-! ## Scores and weights -/

/-- Head `g`'s score of query `n` against key `j`. -/
def scoreEntry (g : Fin 4) (n j : Fin 2048) : EReal :=
  Scalar.select (IntOp.cmpi .eq (x3 (ix1 n)) (x3 (ix1 j)))
    (Ideal.div (∑ e : Fin 256, queryEntry x0 x6 x7 n (headCol g e) * rowEntry x4 x5 x6 x7 x1 1 j (headCol g e))
      (Ideal.ofBits .f32 0x41800000#32))
    (Ideal.ofBits .f32 0xF149F2CA#32)

/-- The mask: whether the two rows belong to one group. -/
theorem mask_apply (g : Fin 4) (n j : Fin 2048) :
    val_main_call0_v0 (F := Ideal) x3 (ix3 g n j) = IntOp.cmpi .eq (x3 (ix1 n)) (x3 (ix1 j)) := by
  rw [val_main_call0_v0_apply, val_main_v45_apply, val_main_v14_apply, val_main_v12_apply, val_main_v13_apply,
    val_main_v10_apply, val_main_v11_apply]
  exact congrArg₂ (IntOp.cmpi .eq) (congrArg x3 (ext1 rfl)) (congrArg x3 (ext1 rfl))

/-- The masked scores. -/
theorem score_apply (g : Fin 4) (n j : Fin 2048) :
    val_main_v46 (F := Ideal) x0 x1 x3 x4 x5 x6 x7 (ix3 g n j) = scoreEntry x0 x1 x3 x4 x5 x6 x7 g n j := by
  rw [val_main_v46_apply, mask_apply, val_main_v44_apply, val_main_v42_apply, val_main_v43_apply, val_main_call0_v1_apply]
  refine congrArg (fun s => Scalar.select _ (Ideal.div s _) _) (Finset.sum_congr rfl fun e _ => ?_)
  exact congrArg₂ (· * ·) ((congrArg _ (ext3 rfl rfl rfl)).trans (query_head x0 x6 x7 g n e))
    ((congrArg _ (ext3 rfl rfl rfl)).trans (key_head x1 x4 x5 x6 x7 g j e))

/-- A maximum down the last axis, from −∞, is the row's maximum. -/
theorem reduce_max (x : FVec Ideal S4x2048x2048 .f32) (g : Fin 4) (n : Fin 2048) :
    Host.reduce (FloatOps.maximumf (F := Ideal) (φ := .f32)) x (constant (F := Ideal) S_ .f32 0xFF800000#32)
      reducesTo_S4x2048x2048_S4x2048_d2 h_S_ (ix2 g n) = rowMax fun j => x (ix3 g n j) := by
  have hr : S4x2048x2048.Reduces [2] S4x2048 := by decide
  refine (congrFun (hostReduce_maximumf_eq_multiReduction (F := Ideal) (φ := .f32) x 0xFF800000#32
    reducesTo_S4x2048x2048_S4x2048_d2 h_S_ hr (.inl rfl) rfl) (ix2 g n)).trans ?_
  refine (Ideal.multiReduction_maximumf_single x _ hr _ rfl (ix2 g n)).trans ?_
  show Finset.fold max (Ideal.ofBits .f32 0xFF800000#32) _ _ = _
  rw [lit_neg_inf]
  exact Finset.fold_congr fun j _ => congrArg x (ext3 rfl rfl rfl)

/-- The row's maximum. -/
theorem max_apply (g : Fin 4) (n : Fin 2048) :
    val_main_v49 (F := Ideal) x0 x1 x3 x4 x5 x6 x7 (ix2 g n) = rowMax fun j => scoreEntry x0 x1 x3 x4 x5 x6 x7 g n j := by
  rw [val_main_v49_apply, val_main_v48_apply]
  have h : val_main_v47 (F := Ideal) x0 x1 x3 x4 x5 x6 x7 (ix2 g n) = rowMax fun j => scoreEntry x0 x1 x3 x4 x5 x6 x7 g n j := by
    refine (reduce_max (val_main_v46 (F := Ideal) x0 x1 x3 x4 x5 x6 x7) g n).trans ?_
    exact congrArg rowMax (funext fun j => score_apply x0 x1 x3 x4 x5 x6 x7 g n j)
  rw [h]
  show max (Ideal.ofBits .f32 0xFF800000#32) _ = _
  rw [lit_neg_inf]
  exact max_eq_right bot_le

/-- The weights. -/
theorem weight_apply (g : Fin 4) (n j : Fin 2048) : val_main_v53 (F := Ideal) x0 x1 x3 x4 x5 x6 x7 (ix3 g n j)
    = weight (fun j => scoreEntry x0 x1 x3 x4 x5 x6 x7 g n j) j := by
  rw [val_main_v53_apply, val_main_v52_apply, val_main_v51_apply, val_main_v50_apply, score_apply]
  refine congrArg (fun s => Ideal.exp (scoreEntry x0 x1 x3 x4 x5 x6 x7 g n j - s)) ?_
  exact (congrArg _ (ext2 rfl rfl)).trans (max_apply x0 x1 x3 x4 x5 x6 x7 g n)

/-- A row's sum of weights. -/
theorem sum_apply (g : Fin 4) (n : Fin 2048) : val_main_v54 (F := Ideal) x0 x1 x3 x4 x5 x6 x7 (ix2 g n)
    = ∑ j : Fin 2048, weight (fun j => scoreEntry x0 x1 x3 x4 x5 x6 x7 g n j) j := by
  rw [val_main_v54_apply, val_main_cst_3_apply]
  refine (congrArg (· + _) Ideal.ofBits_zero_f32).trans ((zero_add _).trans (Finset.sum_congr rfl fun j _ => ?_))
  exact (congrArg _ (ext3 rfl rfl rfl)).trans (weight_apply x0 x1 x3 x4 x5 x6 x7 g n j)

/-! ## The result -/

/-- Head `g`'s result for query `n`. -/
theorem head_apply (g : Fin 4) (n : Fin 2048) (e : Fin 256) : val_main_v58 (F := Ideal) x0 x1 x2 x3 x4 x5 x6 x7 (ix3 g n e)
    = divideThenSum (fun j => scoreEntry x0 x1 x3 x4 x5 x6 x7 g n j)
        (fun j : Fin 2048 => rowEntry x4 x5 x6 x7 x2 2 j (headCol g e)) := by
  rw [val_main_v58_apply]
  refine Finset.sum_congr rfl fun j _ => congrArg₂ (· * ·) ?_ ?_
  · refine (congrArg _ (ext3 (g := g) (r := n) (d := j) rfl rfl rfl)).trans ?_
    rw [val_main_v57_apply, val_main_v56_apply, val_main_v55_apply, weight_apply]
    exact congrArg (Ideal.div _) ((congrArg _ (ext2 rfl rfl)).trans (sum_apply x0 x1 x3 x4 x5 x6 x7 g n))
  · exact (congrArg _ (ext3 rfl rfl rfl)).trans (value_head x2 x4 x5 x6 x7 g j e)

/-- The heads side by side again. -/
theorem heads_apply (n : Fin 2048) (d : Fin 1024) : val_main_v60 (F := Ideal) x0 x1 x2 x3 x4 x5 x6 x7 (ix2 n d)
    = divideThenSum (fun j => scoreEntry x0 x1 x3 x4 x5 x6 x7 (headOf d) n j)
        (fun j : Fin 2048 => rowEntry x4 x5 x6 x7 x2 2 j d) := by
  rw [val_main_v60_apply, val_main_v59_apply]
  have hd := d.isLt
  refine (congrArg _ (ext3 (g := headOf d) (r := n) (d := headLane d) ?_ ?_ ?_)).trans
    ((head_apply x0 x1 x2 x3 x4 x5 x6 x7 (headOf d) n (headLane d)).trans (by rw [headCol_headOf]))
  · show (n.val * 1024 + d.val) / 256 % 4 = d.val / 256; omega
  · show (n.val * 1024 + d.val) / 1024 = n.val; omega
  · show (n.val * 1024 + d.val) % 256 = d.val % 256; omega

/-- **The reference's result** at row `n` and column `o`. -/
theorem result_apply (n : Fin 2048) (o : Fin 1024) : val_main_v66 (F := Ideal) x0 x1 x2 x3 x4 x5 x6 x7 x8 x9 (ix2 n o)
    = x0 (ix2 n o) + (∑ d : Fin 1024, divideThenSum (fun j => scoreEntry x0 x1 x3 x4 x5 x6 x7 (headOf d) n j)
        (fun j : Fin 2048 => rowEntry x4 x5 x6 x7 x2 2 j d) * x8 (ix2 o d) + x9 (ix1 o)) := by
  rw [val_main_v66_apply, val_main_v65_apply, val_main_v62_apply, val_main_v64_apply, val_main_v63_apply]
  refine congrArg (x0 (ix2 n o) + ·) (congrArg₂ (· + ·) (Finset.sum_congr rfl fun d _ => ?_) (congrArg x9 (ext1 rfl)))
  rw [val_main_v61_apply]
  exact congrArg₂ (· * ·) ((congrArg _ (ext2 rfl rfl)).trans (heads_apply x0 x1 x2 x3 x4 x5 x6 x7 n d))
    (congrArg x8 (ext2 rfl rfl))

end Cert.ReferenceIdeal.Hand

end
-- ==== Proof.Agree.lean ====
/- Hand-written, untrusted: THE TWO RESULTS ARE ONE where the arguments are real numbers: entry by entry the kernel's folded
   projections, scaled queries and late division meet the reference's projections, divided scores and normalised weights. -/
module

public import proofs.«01_k».proof.Proof.KValue
public import proofs.«01_k».proof.Proof.Ref

@[expose] public section

set_option maxRecDepth 16384

noncomputable section

namespace Cert.Proof.Agree

open Cert.Proof.Math Cert.KernelIdeal
open Cert.KernelIdeal.Hand (result foldedRows scaledQuery attended)
open Cert.ReferenceIdeal.Hand (queryEntry rowEntry scoreEntry)
open Idealize.ShloMosaic hiding ix1 ix2 ix3
open Idealize.ShloMosaic.ValueIdx
open scoped BigOperators

variable (x0 : FVec Ideal S2048x1024 .f32) (x1 x2 : FVec Ideal S2048x256 .f32) (x3 : IVec S2048 32)
  (x4 : FVec Ideal S1024x256 .f32) (x5 : FVec Ideal S1024 .f32) (x6 : FVec Ideal S3072x1024 .f32) (x7 : FVec Ideal S3072 .f32)
  (x8 : FVec Ideal S1024x1024 .f32) (x9 : FVec Ideal S1024 .f32)

/-- The kernel's scaled query is the reference's query times 1/16. -/
theorem scaledQuery_eq (n : Fin 2048) (d : Fin 1024) :
    scaledQuery x0 (Cert.KernelIdeal.Hand.wPart x6 0) (Cert.KernelIdeal.Hand.bPart x7 0) n d
      = queryEntry x0 x6 x7 n d * ((1 / 16 : ℝ) : EReal) := by
  unfold scaledQuery; rw [lit_sixteenth]; rfl

/-- A projected query is real. -/
theorem query_real (h0 : ∀ i, IsReal (x0 i)) (h6 : ∀ i, IsReal (x6 i)) (h7 : ∀ s : Fin 3, s ≠ 2 → ∀ d, IsReal (x7 (ix1 (inRow s d))))
    (n : Fin 2048) (d : Fin 1024) : IsReal (queryEntry x0 x6 x7 n d) :=
  (IsReal.sum fun _ => (h0 _).mul (h6 _)).add (h7 0 (by decide) d)

section
variable (h4 : ∀ i, IsReal (x4 i)) (h5 : ∀ i, IsReal (x5 i)) (h6 : ∀ i, IsReal (x6 i))
include h4 h5 h6

/-- The folded rows are the twice projected ones. -/
theorem rows_eq (x : FVec Ideal S2048x256 .f32) (hx : ∀ i, IsReal (x i)) (s : Fin 3) (n : Fin 2048) (d : Fin 1024) :
    foldedRows x x4 x5 x6 x7 s (ix2 n d) = rowEntry x4 x5 x6 x7 x s n d :=
  (Cert.KernelIdeal.Hand.foldedRows_apply x x4 x5 x6 x7 s n d).trans
    (folded_eq _ _ _ _ _ (fun _ => hx _) (fun _ _ => h4 _) (fun _ => h5 _) (fun _ => h6 _))

variable (h7 : ∀ s : Fin 3, s ≠ 2 → ∀ d, IsReal (x7 (ix1 (inRow s d))))
include h7

/-- A twice projected key is real. -/
theorem key_real (h1 : ∀ i, IsReal (x1 i)) (n : Fin 2048) (d : Fin 1024) : IsReal (rowEntry x4 x5 x6 x7 x1 1 n d) :=
  twoStep_real _ _ _ _ _ (fun _ => h1 _) (fun _ _ => h4 _) (fun _ => h5 _) (fun _ => h6 _) (h7 1 (by decide) d)

/-- The two scores of a head are one. -/
theorem scores_eq (h0 : ∀ i, IsReal (x0 i)) (h1 : ∀ i, IsReal (x1 i)) (g : Fin 4) (n j : Fin 2048) :
    ∑ e : Fin 256, scaledQuery x0 (Cert.KernelIdeal.Hand.wPart x6 0) (Cert.KernelIdeal.Hand.bPart x7 0) n (headCol g e)
        * foldedRows x1 x4 x5 x6 x7 1 (ix2 j (headCol g e))
      = Ideal.div (∑ e : Fin 256, queryEntry x0 x6 x7 n (headCol g e) * rowEntry x4 x5 x6 x7 x1 1 j (headCol g e))
          (Ideal.ofBits .f32 0x41800000#32) := by
  rw [lit_sixteen, ← score_eq _ _ (fun e => query_real x0 x6 x7 h0 h6 h7 n _) (fun e => key_real x1 x4 x5 x6 x7 h4 h5 h6 h7 h1 j _)]
  exact Finset.sum_congr rfl fun e _ =>
    congrArg₂ (· * ·) (scaledQuery_eq x0 x6 x7 n _) (rows_eq x4 x5 x6 x7 h4 h5 h6 x1 h1 1 j _)

/-- A masked score is real. -/
theorem score_real (h0 : ∀ i, IsReal (x0 i)) (h1 : ∀ i, IsReal (x1 i)) (g : Fin 4) (n j : Fin 2048) :
    IsReal (scoreEntry x0 x1 x3 x4 x5 x6 x7 g n j) := by
  unfold scoreEntry Scalar.select
  split
  · rw [lit_sixteen]
    exact div16_real (IsReal.sum fun e => (query_real x0 x6 x7 h0 h6 h7 n _).mul (key_real x1 x4 x5 x6 x7 h4 h5 h6 h7 h1 j _))
  · exact lit_excluded

/-- **The equation**: the kernel's result is the reference's, wherever the queries, keys, values, the edge weights and offsets and
    the stacked input weights are real numbers, and the queries' and keys' part of the stacked input offsets. -/
theorem result_eq (h0 : ∀ i, IsReal (x0 i)) (h1 : ∀ i, IsReal (x1 i)) (h2 : ∀ i, IsReal (x2 i)) :
    result x0 x1 x2 x3 x4 x5 x6 x7 x8 x9 = Cert.ReferenceIdeal.Read.val_main_v66 (F := Ideal) x0 x1 x2 x3 x4 x5 x6 x7 x8 x9 := by
  funext i
  obtain ⟨n, o, rfl⟩ : ∃ (n : Fin 2048) (o : Fin 1024), i = ix2 n o := ⟨i 0, i 1, ValueIdx.eq_ix2 i⟩
  rw [Cert.ReferenceIdeal.Hand.result_apply, ← add_assoc, add_right_comm]
  unfold result attended
  refine congrArg (x0 (ix2 n o) + x9 (ix1 o) + ·) (Finset.sum_congr rfl fun d _ => congrArg (· * x8 (ix2 o d)) ?_)
  rw [← attention_eq _ _ (fun j => score_real x0 x1 x3 x4 x5 x6 x7 h4 h5 h6 h7 h0 h1 (headOf d) n j)]
  refine congrArg₂ sumThenDivide (funext fun j => ?_) (funext fun j => rows_eq x4 x5 x6 x7 h4 h5 h6 x2 h2 2 j d)
  unfold scoreEntry
  rw [← scores_eq x0 x1 x4 x5 x6 x7 h4 h5 h6 h7 h0 h1 (headOf d) n j]
  exact congrArg (fun b => Scalar.select b _ _) (congrArg₂ (IntOp.cmpi .eq)
    (Cert.KernelIdeal.Hand.group_col x3 n _ _ 0) (Cert.KernelIdeal.Hand.group_row x3 j _ _ 0))

end

end Cert.Proof.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_inputs
public import proofs.«01_k».proof.Proof.Gen.ReferenceIdeal.Run
public import proofs.«01_k».proof.Proof.Gen.ReferenceIdeal.Read
public import proofs.«01_k».proof.Proof.KRun
public import proofs.«01_k».proof.Proof.Pre
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

/-- The reference runs from any memory, leaves its arguments as launched and, declaring no semaphore, ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The result both programs end at: the kernel's, of the kernel's arguments. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v17) :=
  Cert.KernelIdeal.Hand.result
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))

/-- **The kernel and the reference agree** over the extended reals, on inputs that are real numbers. -/
theorem algebraic : Cert.algebraic_KernelIdeal_ReferenceIdeal_pre_finite_inputs := by
  intro m g m' g' hpre hargs
  refine ⟨common m, (θ_run Cert.KernelIdeal.defs _ _).mono
    (fun r h c => ⟨(h c).1.trans (Cert.KernelIdeal.Hand.kernel_value m g c), (h c).2⟩) (Cert.KernelIdeal.Hand.run m g),
    (θ_run Cert.ReferenceIdeal.defs _ _).mono (fun r h c => ⟨(h c).1.trans ?_, (h c).2⟩)
      (Cert.ReferenceIdeal.Value.run (F := Ideal) m' g')⟩
  obtain ⟨e0, e1, e2, e3, e4, e5, e6, e7, e8, e9⟩ := hargs c
  obtain ⟨h0, h1, h2, h4, h5, h6, h7⟩ := Cert.Pre_finite_inputs.Hand.reals _ _ _ _ _ _ _ _ _ _ (hpre c)
  refine (Cert.ReferenceIdeal.Read.val_main_v66_eq m' c).trans ?_
  rw [e0, e1, e2, e3, e4, e5, e6, e7, e8, e9]
  exact (Agree.result_eq _ _ _ _ _ _ _ _ _ _ h4 h5 h6 h7 h0 h1 h2).symm

/-- Everything the certificate claims. -/
theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
